-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S4x1280x2x128 Cert.KernelIdeal.S4x1280x1x128
  ∧ IdealRules.bf16_pair.PackStatement Cert.KernelIdeal.S16x128
  ∧ IdealRules.bf16_pair.Statement Cert.KernelIdeal.S1x8x2x128 Cert.KernelIdeal.S1x8x1x128
  ∧ IdealRules.bf16_pair.Statement Cert.KernelIdeal.S1x1280x2x128 Cert.KernelIdeal.S1x1280x1x128
  ∧ IdealRules.bf16_pair.Statement Cert.KernelIdeal.S2560x128 Cert.KernelIdeal.S1280x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x5120 : Shape := ⟨3, ![48, 1, 5120]⟩
abbrev S1280x17920 : Shape := ⟨2, ![1280, 17920]⟩
abbrev S320x17920 : Shape := ⟨2, ![320, 17920]⟩
abbrev S48x5120 : Shape := ⟨2, ![48, 5120]⟩
abbrev S48x2560 : Shape := ⟨2, ![48, 2560]⟩
abbrev S48x17920 : Shape := ⟨2, ![48, 17920]⟩
abbrev S1280x512 : Shape := ⟨2, ![1280, 512]⟩
abbrev S320x512 : Shape := ⟨2, ![320, 512]⟩
abbrev S48x512 : Shape := ⟨2, ![48, 512]⟩
abbrev S4x1280x128 : Shape := ⟨3, ![4, 1280, 128]⟩
abbrev S16x128 : Shape := ⟨2, ![16, 128]⟩
abbrev S8x128 : Shape := ⟨2, ![8, 128]⟩
abbrev S1x8x128 : Shape := ⟨3, ![1, 8, 128]⟩
abbrev S1x1280x128 : Shape := ⟨3, ![1, 1280, 128]⟩
abbrev S1280x128 : Shape := ⟨2, ![1280, 128]⟩
abbrev S2560x128 : Shape := ⟨2, ![2560, 128]⟩
abbrev S2560x512 : Shape := ⟨2, ![2560, 512]⟩
abbrev S320x1x512 : Shape := ⟨3, ![320, 1, 512]⟩
abbrev S320x8x512 : Shape := ⟨3, ![320, 8, 512]⟩

abbrev nBuf : Space → Nat
  | .hbm => 8
  | .vmem => 12
  | .smem => 0
  | _ => 0

abbrev bufTy : (tb : Table) → Fin (tcTables nBuf tb) → BufTy
  | .hbm, ⟨0, _⟩ => ⟨S48x1x5120, .bf16⟩
  | .hbm, ⟨1, _⟩ => ⟨S1280x17920, .i8⟩
  | .hbm, ⟨2, _⟩ => ⟨S320x17920, .bf16⟩
  | .hbm, ⟨3, _⟩ => ⟨S320x17920, .bf16⟩
  | .hbm, ⟨4, _⟩ => ⟨S48x5120, .bf16⟩
  | .hbm, ⟨5, _⟩ => ⟨S48x2560, .bf16⟩
  | .hbm, ⟨6, _⟩ => ⟨S48x2560, .bf16⟩
  | .hbm, ⟨7, _⟩ => ⟨S48x17920, .bf16⟩
  | .local _ .vmem, ⟨0, _⟩ => ⟨S48x2560, .bf16⟩
  | .local _ .vmem, ⟨1, _⟩ => ⟨S48x2560, .bf16⟩
  | .local _ .vmem, ⟨2, _⟩ => ⟨S1280x512, .i8⟩
  | .local _ .vmem, ⟨3, _⟩ => ⟨S1280x512, .i8⟩
  | .local _ .vmem, ⟨4, _⟩ => ⟨S320x512, .bf16⟩
  | .local _ .vmem, ⟨5, _⟩ => ⟨S320x512, .bf16⟩
  | .local _ .vmem, ⟨6, _⟩ => ⟨S320x512, .bf16⟩
  | .local _ .vmem, ⟨7, _⟩ => ⟨S320x512, .bf16⟩
  | .local _ .vmem, ⟨8, _⟩ => ⟨S48x512, .bf16⟩
  | .local _ .vmem, ⟨9, _⟩ => ⟨S48x512, .bf16⟩
  | .local _ .vmem, ⟨10, _⟩ => ⟨S4x1280x128, .i32⟩
  | .local _ .vmem, ⟨11, _⟩ => ⟨S4x1280x128, .i32⟩
  | _, _ => ⟨S48x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![35], ![false]⟩

@[reducible] def k0_t1_loop : Scf.Loop 32 :=
  let c0_i32 : BitVec 32 := 0#32
  let c20_i32 : BitVec 32 := 20#32
  let v0 : BitVec 32 := Scalar.addi c0_i32 c20_i32
  let c1_i32 : BitVec 32 := 1#32
  ⟨c0_i32, v0, c1_i32⟩
def k0_off1 (k0_t1 : Fin k0_t1_loop.trips) : Fin 2 → Nat :=
  let c0_i32_86 : BitVec 32 := 0#32
  let c0_i32 : BitVec 32 := 0#32
  let c1_i32 : BitVec 32 := 1#32
  let arg9 : BitVec 32 := Scf.iv c0_i32 c1_i32 k0_t1
  let c16_i32_85 : BitVec 32 := 16#32
  let v143 : BitVec 32 := Scalar.muli arg9 c16_i32_85
  let v144 : BitVec 32 := Scalar.addi c0_i32_86 v143
  let v145 : Index := Scalar.indexCast v144
  let c0_87 : Index := 0#32
  ![v145.toNat, 0]
def k0_off2 (k0_t1 : Fin k0_t1_loop.trips) (c0_i32_88 : BitVec 32) (c0_i32_90 : BitVec 32) : Fin 3 → Nat :=
  let c0_91 : Index := 0#32
  let c4_i32_89 : BitVec 32 := 4#32
  let c0_i32_86 : BitVec 32 := 0#32
  let c0_i32 : BitVec 32 := 0#32
  let c1_i32 : BitVec 32 := 1#32
  let arg9 : BitVec 32 := Scf.iv c0_i32 c1_i32 k0_t1
  let c16_i32_85 : BitVec 32 := 16#32
  let v143 : BitVec 32 := Scalar.muli arg9 c16_i32_85
  let v144 : BitVec 32 := Scalar.addi c0_i32_86 v143
  let v150 : BitVec 32 := Scalar.addi v144 c0_i32_88
  let v151 : BitVec 32 := Scalar.muli c4_i32_89 v150
  let v152 : BitVec 32 := Scalar.addi v151 c0_i32_90
  let v153 : Index := Scalar.indexCast v152
  let c0_92 : Index := 0#32
  ![0, v153.toNat, 0]
@[reducible] def k0_t2_loop : Scf.Loop 32 :=
  let c0_i32_1 : BitVec 32 := 0#32
  let c20_i32_2 : BitVec 32 := 20#32
  let v1 : BitVec 32 := Scalar.addi c0_i32_1 c20_i32_2
  let c1_i32_3 : BitVec 32 := 1#32
  ⟨c0_i32_1, v1, c1_i32_3⟩
def k0_off3 (k0_t2 : Fin k0_t2_loop.trips) : Fin 2 → Nat :=
  let c0_i32_86 : BitVec 32 := 0#32
  let c0_i32_1 : BitVec 32 := 0#32
  let c1_i32_3 : BitVec 32 := 1#32
  let arg9 : BitVec 32 := Scf.iv c0_i32_1 c1_i32_3 k0_t2
  let c16_i32_85 : BitVec 32 := 16#32
  let v143 : BitVec 32 := Scalar.muli arg9 c16_i32_85
  let v144 : BitVec 32 := Scalar.addi c0_i32_86 v143
  let v145 : Index := Scalar.indexCast v144
  let c128 : Index := 128#32
  ![v145.toNat, 128]
def k0_off4 (k0_t2 : Fin k0_t2_loop.trips) (c0_i32_87 : BitVec 32) (c0_i32_89 : BitVec 32) : Fin 3 → Nat :=
  let c1_90 : Index := 1#32
  let c4_i32_88 : BitVec 32 := 4#32
  let c0_i32_86 : BitVec 32 := 0#32
  let c0_i32_1 : BitVec 32 := 0#32
  let c1_i32_3 : BitVec 32 := 1#32
  let arg9 : BitVec 32 := Scf.iv c0_i32_1 c1_i32_3 k0_t2
  let c16_i32_85 : BitVec 32 := 16#32
  let v143 : BitVec 32 := Scalar.muli arg9 c16_i32_85
  let v144 : BitVec 32 := Scalar.addi c0_i32_86 v143
  let v150 : BitVec 32 := Scalar.addi v144 c0_i32_87
  let v151 : BitVec 32 := Scalar.muli c4_i32_88 v150
  let v152 : BitVec 32 := Scalar.addi v151 c0_i32_89
  let v153 : Index := Scalar.indexCast v152
  let c0_91 : Index := 0#32
  ![1, v153.toNat, 0]
@[reducible] def k0_t3_loop : Scf.Loop 32 :=
  let c0_i32_5 : BitVec 32 := 0#32
  let c20_i32_6 : BitVec 32 := 20#32
  let v2 : BitVec 32 := Scalar.addi c0_i32_5 c20_i32_6
  let c1_i32_7 : BitVec 32 := 1#32
  ⟨c0_i32_5, v2, c1_i32_7⟩
def k0_off5 (k0_t3 : Fin k0_t3_loop.trips) : Fin 2 → Nat :=
  let c0_i32_86 : BitVec 32 := 0#32
  let c0_i32_5 : BitVec 32 := 0#32
  let c1_i32_7 : BitVec 32 := 1#32
  let arg9 : BitVec 32 := Scf.iv c0_i32_5 c1_i32_7 k0_t3
  let c16_i32_85 : BitVec 32 := 16#32
  let v143 : BitVec 32 := Scalar.muli arg9 c16_i32_85
  let v144 : BitVec 32 := Scalar.addi c0_i32_86 v143
  let v145 : Index := Scalar.indexCast v144
  let c256 : Index := 256#32
  ![v145.toNat, 256]
def k0_off6 (k0_t3 : Fin k0_t3_loop.trips) (c0_i32_87 : BitVec 32) (c0_i32_89 : BitVec 32) : Fin 3 → Nat :=
  let c2_90 : Index := 2#32
  let c4_i32_88 : BitVec 32 := 4#32
  let c0_i32_86 : BitVec 32 := 0#32
  let c0_i32_5 : BitVec 32 := 0#32
  let c1_i32_7 : BitVec 32 := 1#32
  let arg9 : BitVec 32 := Scf.iv c0_i32_5 c1_i32_7 k0_t3
  let c16_i32_85 : BitVec 32 := 16#32
  let v143 : BitVec 32 := Scalar.muli arg9 c16_i32_85
  let v144 : BitVec 32 := Scalar.addi c0_i32_86 v143
  let v150 : BitVec 32 := Scalar.addi v144 c0_i32_87
  let v151 : BitVec 32 := Scalar.muli c4_i32_88 v150
  let v152 : BitVec 32 := Scalar.addi v151 c0_i32_89
  let v153 : Index := Scalar.indexCast v152
  let c0_91 : Index := 0#32
  ![2, v153.toNat, 0]
@[reducible] def k0_t4_loop : Scf.Loop 32 :=
  let c0_i32_9 : BitVec 32 := 0#32
  let c20_i32_10 : BitVec 32 := 20#32
  let v3 : BitVec 32 := Scalar.addi c0_i32_9 c20_i32_10
  let c1_i32_11 : BitVec 32 := 1#32
  ⟨c0_i32_9, v3, c1_i32_11⟩
def k0_off7 (k0_t4 : Fin k0_t4_loop.trips) : Fin 2 → Nat :=
  let c0_i32_86 : BitVec 32 := 0#32
  let c0_i32_9 : BitVec 32 := 0#32
  let c1_i32_11 : BitVec 32 := 1#32
  let arg9 : BitVec 32 := Scf.iv c0_i32_9 c1_i32_11 k0_t4
  let c16_i32_85 : BitVec 32 := 16#32
  let v143 : BitVec 32 := Scalar.muli arg9 c16_i32_85
  let v144 : BitVec 32 := Scalar.addi c0_i32_86 v143
  let v145 : Index := Scalar.indexCast v144
  let c384 : Index := 384#32
  ![v145.toNat, 384]
def k0_off8 (k0_t4 : Fin k0_t4_loop.trips) (c0_i32_87 : BitVec 32) (c0_i32_89 : BitVec 32) : Fin 3 → Nat :=
  let c3_90 : Index := 3#32
  let c4_i32_88 : BitVec 32 := 4#32
  let c0_i32_86 : BitVec 32 := 0#32
  let c0_i32_9 : BitVec 32 := 0#32
  let c1_i32_11 : BitVec 32 := 1#32
  let arg9 : BitVec 32 := Scf.iv c0_i32_9 c1_i32_11 k0_t4
  let c16_i32_85 : BitVec 32 := 16#32
  let v143 : BitVec 32 := Scalar.muli arg9 c16_i32_85
  let v144 : BitVec 32 := Scalar.addi c0_i32_86 v143
  let v150 : BitVec 32 := Scalar.addi v144 c0_i32_87
  let v151 : BitVec 32 := Scalar.muli c4_i32_88 v150
  let v152 : BitVec 32 := Scalar.addi v151 c0_i32_89
  let v153 : Index := Scalar.indexCast v152
  let c0_91 : Index := 0#32
  ![3, v153.toNat, 0]
@[reducible] def k0_t5_loop : Scf.Loop 32 :=
  let c0_i32_13 : BitVec 32 := 0#32
  let c20_i32_14 : BitVec 32 := 20#32
  let v4 : BitVec 32 := Scalar.addi c0_i32_13 c20_i32_14
  let c1_i32_15 : BitVec 32 := 1#32
  ⟨c0_i32_13, v4, c1_i32_15⟩
def k0_off9 (k0_t5 : Fin k0_t5_loop.trips) : Fin 2 → Nat :=
  let c0_i32_86 : BitVec 32 := 0#32
  let c0_i32_13 : BitVec 32 := 0#32
  let c1_i32_15 : BitVec 32 := 1#32
  let arg9 : BitVec 32 := Scf.iv c0_i32_13 c1_i32_15 k0_t5
  let c16_i32_85 : BitVec 32 := 16#32
  let v143 : BitVec 32 := Scalar.muli arg9 c16_i32_85
  let v144 : BitVec 32 := Scalar.addi c0_i32_86 v143
  let v145 : Index := Scalar.indexCast v144
  let c0_87 : Index := 0#32
  ![v145.toNat, 0]
def k0_off10 (k0_t5 : Fin k0_t5_loop.trips) (c0_i32_88 : BitVec 32) (c0_i32_90 : BitVec 32) : Fin 3 → Nat :=
  let c0_91 : Index := 0#32
  let c4_i32_89 : BitVec 32 := 4#32
  let c0_i32_86 : BitVec 32 := 0#32
  let c0_i32_13 : BitVec 32 := 0#32
  let c1_i32_15 : BitVec 32 := 1#32
  let arg9 : BitVec 32 := Scf.iv c0_i32_13 c1_i32_15 k0_t5
  let c16_i32_85 : BitVec 32 := 16#32
  let v143 : BitVec 32 := Scalar.muli arg9 c16_i32_85
  let v144 : BitVec 32 := Scalar.addi c0_i32_86 v143
  let v150 : BitVec 32 := Scalar.addi v144 c0_i32_88
  let v151 : BitVec 32 := Scalar.muli c4_i32_89 v150
  let v152 : BitVec 32 := Scalar.addi v151 c0_i32_90
  let v153 : Index := Scalar.indexCast v152
  let c0_92 : Index := 0#32
  ![0, v153.toNat, 0]
@[reducible] def k0_t6_loop : Scf.Loop 32 :=
  let c0_i32_17 : BitVec 32 := 0#32
  let c20_i32_18 : BitVec 32 := 20#32
  let v5 : BitVec 32 := Scalar.addi c0_i32_17 c20_i32_18
  let c1_i32_19 : BitVec 32 := 1#32
  ⟨c0_i32_17, v5, c1_i32_19⟩
def k0_off11 (k0_t6 : Fin k0_t6_loop.trips) : Fin 2 → Nat :=
  let c0_i32_86 : BitVec 32 := 0#32
  let c0_i32_17 : BitVec 32 := 0#32
  let c1_i32_19 : BitVec 32 := 1#32
  let arg9 : BitVec 32 := Scf.iv c0_i32_17 c1_i32_19 k0_t6
  let c16_i32_85 : BitVec 32 := 16#32
  let v143 : BitVec 32 := Scalar.muli arg9 c16_i32_85
  let v144 : BitVec 32 := Scalar.addi c0_i32_86 v143
  let v145 : Index := Scalar.indexCast v144
  let c128 : Index := 128#32
  ![v145.toNat, 128]
def k0_off12 (k0_t6 : Fin k0_t6_loop.trips) (c0_i32_87 : BitVec 32) (c0_i32_89 : BitVec 32) : Fin 3 → Nat :=
  let c1_90 : Index := 1#32
  let c4_i32_88 : BitVec 32 := 4#32
  let c0_i32_86 : BitVec 32 := 0#32
  let c0_i32_17 : BitVec 32 := 0#32
  let c1_i32_19 : BitVec 32 := 1#32
  let arg9 : BitVec 32 := Scf.iv c0_i32_17 c1_i32_19 k0_t6
  let c16_i32_85 : BitVec 32 := 16#32
  let v143 : BitVec 32 := Scalar.muli arg9 c16_i32_85
  let v144 : BitVec 32 := Scalar.addi c0_i32_86 v143
  let v150 : BitVec 32 := Scalar.addi v144 c0_i32_87
  let v151 : BitVec 32 := Scalar.muli c4_i32_88 v150
  let v152 : BitVec 32 := Scalar.addi v151 c0_i32_89
  let v153 : Index := Scalar.indexCast v152
  let c0_91 : Index := 0#32
  ![1, v153.toNat, 0]
@[reducible] def k0_t7_loop : Scf.Loop 32 :=
  let c0_i32_21 : BitVec 32 := 0#32
  let c20_i32_22 : BitVec 32 := 20#32
  let v6 : BitVec 32 := Scalar.addi c0_i32_21 c20_i32_22
  let c1_i32_23 : BitVec 32 := 1#32
  ⟨c0_i32_21, v6, c1_i32_23⟩
def k0_off13 (k0_t7 : Fin k0_t7_loop.trips) : Fin 2 → Nat :=
  let c0_i32_86 : BitVec 32 := 0#32
  let c0_i32_21 : BitVec 32 := 0#32
  let c1_i32_23 : BitVec 32 := 1#32
  let arg9 : BitVec 32 := Scf.iv c0_i32_21 c1_i32_23 k0_t7
  let c16_i32_85 : BitVec 32 := 16#32
  let v143 : BitVec 32 := Scalar.muli arg9 c16_i32_85
  let v144 : BitVec 32 := Scalar.addi c0_i32_86 v143
  let v145 : Index := Scalar.indexCast v144
  let c256 : Index := 256#32
  ![v145.toNat, 256]
def k0_off14 (k0_t7 : Fin k0_t7_loop.trips) (c0_i32_87 : BitVec 32) (c0_i32_89 : BitVec 32) : Fin 3 → Nat :=
  let c2_90 : Index := 2#32
  let c4_i32_88 : BitVec 32 := 4#32
  let c0_i32_86 : BitVec 32 := 0#32
  let c0_i32_21 : BitVec 32 := 0#32
  let c1_i32_23 : BitVec 32 := 1#32
  let arg9 : BitVec 32 := Scf.iv c0_i32_21 c1_i32_23 k0_t7
  let c16_i32_85 : BitVec 32 := 16#32
  let v143 : BitVec 32 := Scalar.muli arg9 c16_i32_85
  let v144 : BitVec 32 := Scalar.addi c0_i32_86 v143
  let v150 : BitVec 32 := Scalar.addi v144 c0_i32_87
  let v151 : BitVec 32 := Scalar.muli c4_i32_88 v150
  let v152 : BitVec 32 := Scalar.addi v151 c0_i32_89
  let v153 : Index := Scalar.indexCast v152
  let c0_91 : Index := 0#32
  ![2, v153.toNat, 0]
@[reducible] def k0_t8_loop : Scf.Loop 32 :=
  let c0_i32_25 : BitVec 32 := 0#32
  let c20_i32_26 : BitVec 32 := 20#32
  let v7 : BitVec 32 := Scalar.addi c0_i32_25 c20_i32_26
  let c1_i32_27 : BitVec 32 := 1#32
  ⟨c0_i32_25, v7, c1_i32_27⟩
def k0_off15 (k0_t8 : Fin k0_t8_loop.trips) : Fin 2 → Nat :=
  let c0_i32_86 : BitVec 32 := 0#32
  let c0_i32_25 : BitVec 32 := 0#32
  let c1_i32_27 : BitVec 32 := 1#32
  let arg9 : BitVec 32 := Scf.iv c0_i32_25 c1_i32_27 k0_t8
  let c16_i32_85 : BitVec 32 := 16#32
  let v143 : BitVec 32 := Scalar.muli arg9 c16_i32_85
  let v144 : BitVec 32 := Scalar.addi c0_i32_86 v143
  let v145 : Index := Scalar.indexCast v144
  let c384 : Index := 384#32
  ![v145.toNat, 384]
def k0_off16 (k0_t8 : Fin k0_t8_loop.trips) (c0_i32_87 : BitVec 32) (c0_i32_89 : BitVec 32) : Fin 3 → Nat :=
  let c3_90 : Index := 3#32
  let c4_i32_88 : BitVec 32 := 4#32
  let c0_i32_86 : BitVec 32 := 0#32
  let c0_i32_25 : BitVec 32 := 0#32
  let c1_i32_27 : BitVec 32 := 1#32
  let arg9 : BitVec 32 := Scf.iv c0_i32_25 c1_i32_27 k0_t8
  let c16_i32_85 : BitVec 32 := 16#32
  let v143 : BitVec 32 := Scalar.muli arg9 c16_i32_85
  let v144 : BitVec 32 := Scalar.addi c0_i32_86 v143
  let v150 : BitVec 32 := Scalar.addi v144 c0_i32_87
  let v151 : BitVec 32 := Scalar.muli c4_i32_88 v150
  let v152 : BitVec 32 := Scalar.addi v151 c0_i32_89
  let v153 : Index := Scalar.indexCast v152
  let c0_91 : Index := 0#32
  ![3, v153.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S48x1x5120 : Shape := ⟨3, ![48, 1, 5120]⟩
abbrev S1280x17920 : Shape := ⟨2, ![1280, 17920]⟩
abbrev S320x17920 : Shape := ⟨2, ![320, 17920]⟩
abbrev S48x5120 : Shape := ⟨2, ![48, 5120]⟩
abbrev S48x2560 : Shape := ⟨2, ![48, 2560]⟩
abbrev S48x17920 : Shape := ⟨2, ![48, 17920]⟩
abbrev S1280x512 : Shape := ⟨2, ![1280, 512]⟩
abbrev S320x512 : Shape := ⟨2, ![320, 512]⟩
abbrev S48x512 : Shape := ⟨2, ![48, 512]⟩
abbrev S4x1280x128 : Shape := ⟨3, ![4, 1280, 128]⟩
abbrev S4x1280x2x128 : Shape := ⟨4, ![4, 1280, 2, 128]⟩
abbrev S4x1280x1x128 : Shape := ⟨4, ![4, 1280, 1, 128]⟩
abbrev S16x128 : Shape := ⟨2, ![16, 128]⟩
abbrev S8x128 : Shape := ⟨2, ![8, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S1x1280x128 : Shape := ⟨3, ![1, 1280, 128]⟩
abbrev S1x1280x2x128 : Shape := ⟨4, ![1, 1280, 2, 128]⟩
abbrev S1x1280x1x128 : Shape := ⟨4, ![1, 1280, 1, 128]⟩
abbrev S1280x128 : Shape := ⟨2, ![1280, 128]⟩
abbrev S2560x128 : Shape := ⟨2, ![2560, 128]⟩
abbrev S2560x512 : Shape := ⟨2, ![2560, 512]⟩
abbrev S320x1x512 : Shape := ⟨3, ![320, 1, 512]⟩
abbrev S320x8x512 : Shape := ⟨3, ![320, 8, 512]⟩

abbrev nBuf : Space → Nat
  | .hbm => 8
  | .vmem => 12
  | .smem => 0
  | _ => 0

abbrev bufTy : (tb : Table) → Fin (tcTables nBuf tb) → BufTy
  | .hbm, ⟨0, _⟩ => ⟨S48x1x5120, .bf16⟩
  | .hbm, ⟨1, _⟩ => ⟨S1280x17920, .i8⟩
  | .hbm, ⟨2, _⟩ => ⟨S320x17920, .bf16⟩
  | .hbm, ⟨3, _⟩ => ⟨S320x17920, .bf16⟩
  | .hbm, ⟨4, _⟩ => ⟨S48x5120, .bf16⟩
  | .hbm, ⟨5, _⟩ => ⟨S48x2560, .bf16⟩
  | .hbm, ⟨6, _⟩ => ⟨S48x2560, .bf16⟩
  | .hbm, ⟨7, _⟩ => ⟨S48x17920, .bf16⟩
  | .local _ .vmem, ⟨0, _⟩ => ⟨S48x2560, .bf16⟩
  | .local _ .vmem, ⟨1, _⟩ => ⟨S48x2560, .bf16⟩
  | .local _ .vmem, ⟨2, _⟩ => ⟨S1280x512, .i8⟩
  | .local _ .vmem, ⟨3, _⟩ => ⟨S1280x512, .i8⟩
  | .local _ .vmem, ⟨4, _⟩ => ⟨S320x512, .bf16⟩
  | .local _ .vmem, ⟨5, _⟩ => ⟨S320x512, .bf16⟩
  | .local _ .vmem, ⟨6, _⟩ => ⟨S320x512, .bf16⟩
  | .local _ .vmem, ⟨7, _⟩ => ⟨S320x512, .bf16⟩
  | .local _ .vmem, ⟨8, _⟩ => ⟨S48x512, .bf16⟩
  | .local _ .vmem, ⟨9, _⟩ => ⟨S48x512, .bf16⟩
  | .local _ .vmem, ⟨10, _⟩ => ⟨S4x1280x2x128, .bf16⟩
  | .local _ .vmem, ⟨11, _⟩ => ⟨S4x1280x2x128, .bf16⟩
  | _, _ => ⟨S48x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![35], ![false]⟩

@[reducible] def k0_t1_loop : Scf.Loop 32 :=
  let c0_i32 : BitVec 32 := 0#32
  let c20_i32 : BitVec 32 := 20#32
  let v0 : BitVec 32 := Scalar.addi c0_i32 c20_i32
  let c1_i32 : BitVec 32 := 1#32
  ⟨c0_i32, v0, c1_i32⟩
def k0_off1 (k0_t1 : Fin k0_t1_loop.trips) : Fin 2 → Nat :=
  let c0_i32_86 : BitVec 32 := 0#32
  let c0_i32 : BitVec 32 := 0#32
  let c1_i32 : BitVec 32 := 1#32
  let arg9 : BitVec 32 := Scf.iv c0_i32 c1_i32 k0_t1
  let c16_i32_85 : BitVec 32 := 16#32
  let v143 : BitVec 32 := Scalar.muli arg9 c16_i32_85
  let v144 : BitVec 32 := Scalar.addi c0_i32_86 v143
  let v145 : Index := Scalar.indexCast v144
  let c0_87 : Index := 0#32
  ![v145.toNat, 0]
def k0_off2 (k0_t1 : Fin k0_t1_loop.trips) (c0_i32_88 : BitVec 32) (c0_i32_90 : BitVec 32) : Fin 4 → Nat :=
  let c0_91 : Index := 0#32
  let c4_i32_89 : BitVec 32 := 4#32
  let c0_i32_86 : BitVec 32 := 0#32
  let c0_i32 : BitVec 32 := 0#32
  let c1_i32 : BitVec 32 := 1#32
  let arg9 : BitVec 32 := Scf.iv c0_i32 c1_i32 k0_t1
  let c16_i32_85 : BitVec 32 := 16#32
  let v143 : BitVec 32 := Scalar.muli arg9 c16_i32_85
  let v144 : BitVec 32 := Scalar.addi c0_i32_86 v143
  let v150 : BitVec 32 := Scalar.addi v144 c0_i32_88
  let v151 : BitVec 32 := Scalar.muli c4_i32_89 v150
  let v152 : BitVec 32 := Scalar.addi v151 c0_i32_90
  let v153 : Index := Scalar.indexCast v152
  let c0_92 : Index := 0#32
  ![0, v153.toNat, 0, 0]
@[reducible] def k0_t2_loop : Scf.Loop 32 :=
  let c0_i32_1 : BitVec 32 := 0#32
  let c20_i32_2 : BitVec 32 := 20#32
  let v1 : BitVec 32 := Scalar.addi c0_i32_1 c20_i32_2
  let c1_i32_3 : BitVec 32 := 1#32
  ⟨c0_i32_1, v1, c1_i32_3⟩
def k0_off3 (k0_t2 : Fin k0_t2_loop.trips) : Fin 2 → Nat :=
  let c0_i32_86 : BitVec 32 := 0#32
  let c0_i32_1 : BitVec 32 := 0#32
  let c1_i32_3 : BitVec 32 := 1#32
  let arg9 : BitVec 32 := Scf.iv c0_i32_1 c1_i32_3 k0_t2
  let c16_i32_85 : BitVec 32 := 16#32
  let v143 : BitVec 32 := Scalar.muli arg9 c16_i32_85
  let v144 : BitVec 32 := Scalar.addi c0_i32_86 v143
  let v145 : Index := Scalar.indexCast v144
  let c128 : Index := 128#32
  ![v145.toNat, 128]
def k0_off4 (k0_t2 : Fin k0_t2_loop.trips) (c0_i32_87 : BitVec 32) (c0_i32_89 : BitVec 32) : Fin 4 → Nat :=
  let c1_90 : Index := 1#32
  let c4_i32_88 : BitVec 32 := 4#32
  let c0_i32_86 : BitVec 32 := 0#32
  let c0_i32_1 : BitVec 32 := 0#32
  let c1_i32_3 : BitVec 32 := 1#32
  let arg9 : BitVec 32 := Scf.iv c0_i32_1 c1_i32_3 k0_t2
  let c16_i32_85 : BitVec 32 := 16#32
  let v143 : BitVec 32 := Scalar.muli arg9 c16_i32_85
  let v144 : BitVec 32 := Scalar.addi c0_i32_86 v143
  let v150 : BitVec 32 := Scalar.addi v144 c0_i32_87
  let v151 : BitVec 32 := Scalar.muli c4_i32_88 v150
  let v152 : BitVec 32 := Scalar.addi v151 c0_i32_89
  let v153 : Index := Scalar.indexCast v152
  let c0_91 : Index := 0#32
  ![1, v153.toNat, 0, 0]
@[reducible] def k0_t3_loop : Scf.Loop 32 :=
  let c0_i32_5 : BitVec 32 := 0#32
  let c20_i32_6 : BitVec 32 := 20#32
  let v2 : BitVec 32 := Scalar.addi c0_i32_5 c20_i32_6
  let c1_i32_7 : BitVec 32 := 1#32
  ⟨c0_i32_5, v2, c1_i32_7⟩
def k0_off5 (k0_t3 : Fin k0_t3_loop.trips) : Fin 2 → Nat :=
  let c0_i32_86 : BitVec 32 := 0#32
  let c0_i32_5 : BitVec 32 := 0#32
  let c1_i32_7 : BitVec 32 := 1#32
  let arg9 : BitVec 32 := Scf.iv c0_i32_5 c1_i32_7 k0_t3
  let c16_i32_85 : BitVec 32 := 16#32
  let v143 : BitVec 32 := Scalar.muli arg9 c16_i32_85
  let v144 : BitVec 32 := Scalar.addi c0_i32_86 v143
  let v145 : Index := Scalar.indexCast v144
  let c256 : Index := 256#32
  ![v145.toNat, 256]
def k0_off6 (k0_t3 : Fin k0_t3_loop.trips) (c0_i32_87 : BitVec 32) (c0_i32_89 : BitVec 32) : Fin 4 → Nat :=
  let c2_90 : Index := 2#32
  let c4_i32_88 : BitVec 32 := 4#32
  let c0_i32_86 : BitVec 32 := 0#32
  let c0_i32_5 : BitVec 32 := 0#32
  let c1_i32_7 : BitVec 32 := 1#32
  let arg9 : BitVec 32 := Scf.iv c0_i32_5 c1_i32_7 k0_t3
  let c16_i32_85 : BitVec 32 := 16#32
  let v143 : BitVec 32 := Scalar.muli arg9 c16_i32_85
  let v144 : BitVec 32 := Scalar.addi c0_i32_86 v143
  let v150 : BitVec 32 := Scalar.addi v144 c0_i32_87
  let v151 : BitVec 32 := Scalar.muli c4_i32_88 v150
  let v152 : BitVec 32 := Scalar.addi v151 c0_i32_89
  let v153 : Index := Scalar.indexCast v152
  let c0_91 : Index := 0#32
  ![2, v153.toNat, 0, 0]
@[reducible] def k0_t4_loop : Scf.Loop 32 :=
  let c0_i32_9 : BitVec 32 := 0#32
  let c20_i32_10 : BitVec 32 := 20#32
  let v3 : BitVec 32 := Scalar.addi c0_i32_9 c20_i32_10
  let c1_i32_11 : BitVec 32 := 1#32
  ⟨c0_i32_9, v3, c1_i32_11⟩
def k0_off7 (k0_t4 : Fin k0_t4_loop.trips) : Fin 2 → Nat :=
  let c0_i32_86 : BitVec 32 := 0#32
  let c0_i32_9 : BitVec 32 := 0#32
  let c1_i32_11 : BitVec 32 := 1#32
  let arg9 : BitVec 32 := Scf.iv c0_i32_9 c1_i32_11 k0_t4
  let c16_i32_85 : BitVec 32 := 16#32
  let v143 : BitVec 32 := Scalar.muli arg9 c16_i32_85
  let v144 : BitVec 32 := Scalar.addi c0_i32_86 v143
  let v145 : Index := Scalar.indexCast v144
  let c384 : Index := 384#32
  ![v145.toNat, 384]
def k0_off8 (k0_t4 : Fin k0_t4_loop.trips) (c0_i32_87 : BitVec 32) (c0_i32_89 : BitVec 32) : Fin 4 → Nat :=
  let c3_90 : Index := 3#32
  let c4_i32_88 : BitVec 32 := 4#32
  let c0_i32_86 : BitVec 32 := 0#32
  let c0_i32_9 : BitVec 32 := 0#32
  let c1_i32_11 : BitVec 32 := 1#32
  let arg9 : BitVec 32 := Scf.iv c0_i32_9 c1_i32_11 k0_t4
  let c16_i32_85 : BitVec 32 := 16#32
  let v143 : BitVec 32 := Scalar.muli arg9 c16_i32_85
  let v144 : BitVec 32 := Scalar.addi c0_i32_86 v143
  let v150 : BitVec 32 := Scalar.addi v144 c0_i32_87
  let v151 : BitVec 32 := Scalar.muli c4_i32_88 v150
  let v152 : BitVec 32 := Scalar.addi v151 c0_i32_89
  let v153 : Index := Scalar.indexCast v152
  let c0_91 : Index := 0#32
  ![3, v153.toNat, 0, 0]
@[reducible] def k0_t5_loop : Scf.Loop 32 :=
  let c0_i32_13 : BitVec 32 := 0#32
  let c20_i32_14 : BitVec 32 := 20#32
  let v4 : BitVec 32 := Scalar.addi c0_i32_13 c20_i32_14
  let c1_i32_15 : BitVec 32 := 1#32
  ⟨c0_i32_13, v4, c1_i32_15⟩
def k0_off9 (k0_t5 : Fin k0_t5_loop.trips) : Fin 2 → Nat :=
  let c0_i32_86 : BitVec 32 := 0#32
  let c0_i32_13 : BitVec 32 := 0#32
  let c1_i32_15 : BitVec 32 := 1#32
  let arg9 : BitVec 32 := Scf.iv c0_i32_13 c1_i32_15 k0_t5
  let c16_i32_85 : BitVec 32 := 16#32
  let v143 : BitVec 32 := Scalar.muli arg9 c16_i32_85
  let v144 : BitVec 32 := Scalar.addi c0_i32_86 v143
  let v145 : Index := Scalar.indexCast v144
  let c0_87 : Index := 0#32
  ![v145.toNat, 0]
def k0_off10 (k0_t5 : Fin k0_t5_loop.trips) (c0_i32_88 : BitVec 32) (c0_i32_90 : BitVec 32) : Fin 4 → Nat :=
  let c0_91 : Index := 0#32
  let c4_i32_89 : BitVec 32 := 4#32
  let c0_i32_86 : BitVec 32 := 0#32
  let c0_i32_13 : BitVec 32 := 0#32
  let c1_i32_15 : BitVec 32 := 1#32
  let arg9 : BitVec 32 := Scf.iv c0_i32_13 c1_i32_15 k0_t5
  let c16_i32_85 : BitVec 32 := 16#32
  let v143 : BitVec 32 := Scalar.muli arg9 c16_i32_85
  let v144 : BitVec 32 := Scalar.addi c0_i32_86 v143
  let v150 : BitVec 32 := Scalar.addi v144 c0_i32_88
  let v151 : BitVec 32 := Scalar.muli c4_i32_89 v150
  let v152 : BitVec 32 := Scalar.addi v151 c0_i32_90
  let v153 : Index := Scalar.indexCast v152
  let c0_92 : Index := 0#32
  ![0, v153.toNat, 0, 0]
@[reducible] def k0_t6_loop : Scf.Loop 32 :=
  let c0_i32_17 : BitVec 32 := 0#32
  let c20_i32_18 : BitVec 32 := 20#32
  let v5 : BitVec 32 := Scalar.addi c0_i32_17 c20_i32_18
  let c1_i32_19 : BitVec 32 := 1#32
  ⟨c0_i32_17, v5, c1_i32_19⟩
def k0_off11 (k0_t6 : Fin k0_t6_loop.trips) : Fin 2 → Nat :=
  let c0_i32_86 : BitVec 32 := 0#32
  let c0_i32_17 : BitVec 32 := 0#32
  let c1_i32_19 : BitVec 32 := 1#32
  let arg9 : BitVec 32 := Scf.iv c0_i32_17 c1_i32_19 k0_t6
  let c16_i32_85 : BitVec 32 := 16#32
  let v143 : BitVec 32 := Scalar.muli arg9 c16_i32_85
  let v144 : BitVec 32 := Scalar.addi c0_i32_86 v143
  let v145 : Index := Scalar.indexCast v144
  let c128 : Index := 128#32
  ![v145.toNat, 128]
def k0_off12 (k0_t6 : Fin k0_t6_loop.trips) (c0_i32_87 : BitVec 32) (c0_i32_89 : BitVec 32) : Fin 4 → Nat :=
  let c1_90 : Index := 1#32
  let c4_i32_88 : BitVec 32 := 4#32
  let c0_i32_86 : BitVec 32 := 0#32
  let c0_i32_17 : BitVec 32 := 0#32
  let c1_i32_19 : BitVec 32 := 1#32
  let arg9 : BitVec 32 := Scf.iv c0_i32_17 c1_i32_19 k0_t6
  let c16_i32_85 : BitVec 32 := 16#32
  let v143 : BitVec 32 := Scalar.muli arg9 c16_i32_85
  let v144 : BitVec 32 := Scalar.addi c0_i32_86 v143
  let v150 : BitVec 32 := Scalar.addi v144 c0_i32_87
  let v151 : BitVec 32 := Scalar.muli c4_i32_88 v150
  let v152 : BitVec 32 := Scalar.addi v151 c0_i32_89
  let v153 : Index := Scalar.indexCast v152
  let c0_91 : Index := 0#32
  ![1, v153.toNat, 0, 0]
@[reducible] def k0_t7_loop : Scf.Loop 32 :=
  let c0_i32_21 : BitVec 32 := 0#32
  let c20_i32_22 : BitVec 32 := 20#32
  let v6 : BitVec 32 := Scalar.addi c0_i32_21 c20_i32_22
  let c1_i32_23 : BitVec 32 := 1#32
  ⟨c0_i32_21, v6, c1_i32_23⟩
def k0_off13 (k0_t7 : Fin k0_t7_loop.trips) : Fin 2 → Nat :=
  let c0_i32_86 : BitVec 32 := 0#32
  let c0_i32_21 : BitVec 32 := 0#32
  let c1_i32_23 : BitVec 32 := 1#32
  let arg9 : BitVec 32 := Scf.iv c0_i32_21 c1_i32_23 k0_t7
  let c16_i32_85 : BitVec 32 := 16#32
  let v143 : BitVec 32 := Scalar.muli arg9 c16_i32_85
  let v144 : BitVec 32 := Scalar.addi c0_i32_86 v143
  let v145 : Index := Scalar.indexCast v144
  let c256 : Index := 256#32
  ![v145.toNat, 256]
def k0_off14 (k0_t7 : Fin k0_t7_loop.trips) (c0_i32_87 : BitVec 32) (c0_i32_89 : BitVec 32) : Fin 4 → Nat :=
  let c2_90 : Index := 2#32
  let c4_i32_88 : BitVec 32 := 4#32
  let c0_i32_86 : BitVec 32 := 0#32
  let c0_i32_21 : BitVec 32 := 0#32
  let c1_i32_23 : BitVec 32 := 1#32
  let arg9 : BitVec 32 := Scf.iv c0_i32_21 c1_i32_23 k0_t7
  let c16_i32_85 : BitVec 32 := 16#32
  let v143 : BitVec 32 := Scalar.muli arg9 c16_i32_85
  let v144 : BitVec 32 := Scalar.addi c0_i32_86 v143
  let v150 : BitVec 32 := Scalar.addi v144 c0_i32_87
  let v151 : BitVec 32 := Scalar.muli c4_i32_88 v150
  let v152 : BitVec 32 := Scalar.addi v151 c0_i32_89
  let v153 : Index := Scalar.indexCast v152
  let c0_91 : Index := 0#32
  ![2, v153.toNat, 0, 0]
@[reducible] def k0_t8_loop : Scf.Loop 32 :=
  let c0_i32_25 : BitVec 32 := 0#32
  let c20_i32_26 : BitVec 32 := 20#32
  let v7 : BitVec 32 := Scalar.addi c0_i32_25 c20_i32_26
  let c1_i32_27 : BitVec 32 := 1#32
  ⟨c0_i32_25, v7, c1_i32_27⟩
def k0_off15 (k0_t8 : Fin k0_t8_loop.trips) : Fin 2 → Nat :=
  let c0_i32_86 : BitVec 32 := 0#32
  let c0_i32_25 : BitVec 32 := 0#32
  let c1_i32_27 : BitVec 32 := 1#32
  let arg9 : BitVec 32 := Scf.iv c0_i32_25 c1_i32_27 k0_t8
  let c16_i32_85 : BitVec 32 := 16#32
  let v143 : BitVec 32 := Scalar.muli arg9 c16_i32_85
  let v144 : BitVec 32 := Scalar.addi c0_i32_86 v143
  let v145 : Index := Scalar.indexCast v144
  let c384 : Index := 384#32
  ![v145.toNat, 384]
def k0_off16 (k0_t8 : Fin k0_t8_loop.trips) (c0_i32_87 : BitVec 32) (c0_i32_89 : BitVec 32) : Fin 4 → Nat :=
  let c3_90 : Index := 3#32
  let c4_i32_88 : BitVec 32 := 4#32
  let c0_i32_86 : BitVec 32 := 0#32
  let c0_i32_25 : BitVec 32 := 0#32
  let c1_i32_27 : BitVec 32 := 1#32
  let arg9 : BitVec 32 := Scf.iv c0_i32_25 c1_i32_27 k0_t8
  let c16_i32_85 : BitVec 32 := 16#32
  let v143 : BitVec 32 := Scalar.muli arg9 c16_i32_85
  let v144 : BitVec 32 := Scalar.addi c0_i32_86 v143
  let v150 : BitVec 32 := Scalar.addi v144 c0_i32_87
  let v151 : BitVec 32 := Scalar.muli c4_i32_88 v150
  let v152 : BitVec 32 := Scalar.addi v151 c0_i32_89
  let v153 : Index := Scalar.indexCast v152
  let c0_91 : Index := 0#32
  ![3, v153.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S48x1x5120 : Shape := ⟨3, ![48, 1, 5120]⟩
abbrev S1280x17920 : Shape := ⟨2, ![1280, 17920]⟩
abbrev S320x17920 : Shape := ⟨2, ![320, 17920]⟩
abbrev S320x4x17920 : Shape := ⟨3, ![320, 4, 17920]⟩
abbrev S_ : Shape := ⟨0, ![]⟩
abbrev S48x1x1280 : Shape := ⟨3, ![48, 1, 1280]⟩
abbrev S48x1x17920 : Shape := ⟨3, ![48, 1, 17920]⟩
abbrev S48x17920 : Shape := ⟨2, ![48, 17920]⟩

abbrev nBuf : Space → Nat
  | .hbm => 61
  | .vmem => 0
  | .smem => 0
  | _ => 0

abbrev bufTy : (tb : Table) → Fin (tcTables nBuf tb) → BufTy
  | .hbm, ⟨0, _⟩ => ⟨S48x1x5120, .bf16⟩
  | .hbm, ⟨1, _⟩ => ⟨S1280x17920, .i8⟩
  | .hbm, ⟨2, _⟩ => ⟨S320x17920, .bf16⟩
  | .hbm, ⟨3, _⟩ => ⟨S320x17920, .bf16⟩
  | .hbm, ⟨4, _⟩ => ⟨S320x4x17920, .bf16⟩
  | .hbm, ⟨5, _⟩ => ⟨S1280x17920, .bf16⟩
  | .hbm, ⟨6, _⟩ => ⟨S320x4x17920, .bf16⟩
  | .hbm, ⟨7, _⟩ => ⟨S1280x17920, .bf16⟩
  | .hbm, ⟨8, _⟩ => ⟨S1280x17920, .i32⟩
  | .hbm, ⟨9, _⟩ => ⟨S_, .i32⟩
  | .hbm, ⟨10, _⟩ => ⟨S1280x17920, .i32⟩
  | .hbm, ⟨11, _⟩ => ⟨S1280x17920, .i32⟩
  | .hbm, ⟨12, _⟩ => ⟨S_, .i32⟩
  | .hbm, ⟨13, _⟩ => ⟨S1280x17920, .i32⟩
  | .hbm, ⟨14, _⟩ => ⟨S1280x17920, .i32⟩
  | .hbm, ⟨15, _⟩ => ⟨S1280x17920, .bf16⟩
  | .hbm, ⟨16, _⟩ => ⟨S1280x17920, .bf16⟩
  | .hbm, ⟨17, _⟩ => ⟨S1280x17920, .bf16⟩
  | .hbm, ⟨18, _⟩ => ⟨S48x1x1280, .bf16⟩
  | .hbm, ⟨19, _⟩ => ⟨S48x1x17920, .f32⟩
  | .hbm, ⟨20, _⟩ => ⟨S1280x17920, .i32⟩
  | .hbm, ⟨21, _⟩ => ⟨S_, .i32⟩
  | .hbm, ⟨22, _⟩ => ⟨S1280x17920, .i32⟩
  | .hbm, ⟨23, _⟩ => ⟨S1280x17920, .i32⟩
  | .hbm, ⟨24, _⟩ => ⟨S_, .i32⟩
  | .hbm, ⟨25, _⟩ => ⟨S1280x17920, .i32⟩
  | .hbm, ⟨26, _⟩ => ⟨S1280x17920, .i32⟩
  | .hbm, ⟨27, _⟩ => ⟨S1280x17920, .bf16⟩
  | .hbm, ⟨28, _⟩ => ⟨S1280x17920, .bf16⟩
  | .hbm, ⟨29, _⟩ => ⟨S1280x17920, .bf16⟩
  | .hbm, ⟨30, _⟩ => ⟨S48x1x1280, .bf16⟩
  | .hbm, ⟨31, _⟩ => ⟨S48x1x17920, .f32⟩
  | .hbm, ⟨32, _⟩ => ⟨S1280x17920, .i32⟩
  | .hbm, ⟨33, _⟩ => ⟨S_, .i32⟩
  | .hbm, ⟨34, _⟩ => ⟨S1280x17920, .i32⟩
  | .hbm, ⟨35, _⟩ => ⟨S1280x17920, .i32⟩
  | .hbm, ⟨36, _⟩ => ⟨S_, .i32⟩
  | .hbm, ⟨37, _⟩ => ⟨S1280x17920, .i32⟩
  | .hbm, ⟨38, _⟩ => ⟨S1280x17920, .i32⟩
  | .hbm, ⟨39, _⟩ => ⟨S1280x17920, .bf16⟩
  | .hbm, ⟨40, _⟩ => ⟨S1280x17920, .bf16⟩
  | .hbm, ⟨41, _⟩ => ⟨S1280x17920, .bf16⟩
  | .hbm, ⟨42, _⟩ => ⟨S48x1x1280, .bf16⟩
  | .hbm, ⟨43, _⟩ => ⟨S48x1x17920, .f32⟩
  | .hbm, ⟨44, _⟩ => ⟨S1280x17920, .i32⟩
  | .hbm, ⟨45, _⟩ => ⟨S_, .i32⟩
  | .hbm, ⟨46, _⟩ => ⟨S1280x17920, .i32⟩
  | .hbm, ⟨47, _⟩ => ⟨S1280x17920, .i32⟩
  | .hbm, ⟨48, _⟩ => ⟨S_, .i32⟩
  | .hbm, ⟨49, _⟩ => ⟨S1280x17920, .i32⟩
  | .hbm, ⟨50, _⟩ => ⟨S1280x17920, .i32⟩
  | .hbm, ⟨51, _⟩ => ⟨S1280x17920, .bf16⟩
  | .hbm, ⟨52, _⟩ => ⟨S1280x17920, .bf16⟩
  | .hbm, ⟨53, _⟩ => ⟨S1280x17920, .bf16⟩
  | .hbm, ⟨54, _⟩ => ⟨S48x1x1280, .bf16⟩
  | .hbm, ⟨55, _⟩ => ⟨S48x1x17920, .f32⟩
  | .hbm, ⟨56, _⟩ => ⟨S48x1x17920, .f32⟩
  | .hbm, ⟨57, _⟩ => ⟨S48x1x17920, .f32⟩
  | .hbm, ⟨58, _⟩ => ⟨S48x1x17920, .f32⟩
  | .hbm, ⟨59, _⟩ => ⟨S48x1x17920, .bf16⟩
  | .hbm, ⟨60, _⟩ => ⟨S48x17920, .bf16⟩
  | _, _ => ⟨S48x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_c_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Proof.KernelLoops.lean ====
module

public import proofs.«01_k».proof.Proof.Gen.Kernel.Loops

@[expose] public section

/-! # The expansion loops: the invariant of each -/

noncomputable section
namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra the invariants are stated over. -/
abbrev UU (nD : Nat) (τ : Topo) : Type := UR sig nD τ
/-- No loop of the program needs a variant. -/
abbrev 𝒱₀ : Variants := Variants.none

local notation "𝕄" => MT nD τ sig Unit (Elt F) ℕ (UR sig nD τ) ℕ

/-- The source's buffer at `x`, and the scratch buffer at anything. -/
def FillInv (c : Dev nD) {sp sp' : Space} (S : Memref sig .tc sp S320x512 .bf16) (D : Memref sig .tc sp' S4x1280x128 .i32)
    (x : Vec F S320x512 .bf16) : sProp 𝕄 :=
  iprop(owns (c : Thread nD τ) S fullShare x ∗ ∃ d, owns (c : Thread nD τ) D fullShare d)

set_option maxRecDepth 16384

set_option warn.classDefReducibility false in
/-- Loop 1: plane 0. -/
@[sl_loop] noncomputable def loopInv_k0_t1 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x128 .i32) (harg7 : arg7.IsWhole) (arg8 : Memref sig .tc .vmem S4x1280x128 .i32) (harg8 : arg8.IsWhole)
    (x : Vec F S320x512 .bf16) :
    Cert.Kernel.Gen.LoopInvTy_k0_t1 (F := F) Unit ℕ (UU nD τ) ℕ 𝒱₀ c none Set.univ i arg1 harg1 arg2 harg2 arg3 harg3 arg4 harg4 arg5 harg5 arg6 harg6 arg7 harg7 arg8 harg8 where
  inv := fun k acc => FillInv c arg4 arg7 x
  step := fun k acc => by
    unfold Cert.Kernel.Gen.k0_t1_body
    unfold FillInv owns
    iintro ⟨⟨%X, %hX, HS⟩, ⟨%d, ⟨%f, %hd, HD⟩⟩⟩
    subst hX hd
    sl_exec_parts
    sl_step
    isplitl [HS]
    · iexists X
      isplitr
      · ipureintro; rfl
      iexact HS
    iexists _
    iexists _
    isplitr
    swap
    · iexact HD
    ipureintro; rfl

set_option warn.classDefReducibility false in
/-- Loop 2: plane 1. -/
@[sl_loop] noncomputable def loopInv_k0_t2 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x128 .i32) (harg7 : arg7.IsWhole) (arg8 : Memref sig .tc .vmem S4x1280x128 .i32) (harg8 : arg8.IsWhole)
    (x : Vec F S320x512 .bf16) :
    Cert.Kernel.Gen.LoopInvTy_k0_t2 (F := F) Unit ℕ (UU nD τ) ℕ 𝒱₀ c none Set.univ i arg1 harg1 arg2 harg2 arg3 harg3 arg4 harg4 arg5 harg5 arg6 harg6 arg7 harg7 arg8 harg8 where
  inv := fun k acc => FillInv c arg4 arg7 x
  step := fun k acc => by
    unfold Cert.Kernel.Gen.k0_t2_body
    unfold FillInv owns
    iintro ⟨⟨%X, %hX, HS⟩, ⟨%d, ⟨%f, %hd, HD⟩⟩⟩
    subst hX hd
    sl_exec_parts
    sl_step
    isplitl [HS]
    · iexists X
      isplitr
      · ipureintro; rfl
      iexact HS
    iexists _
    iexists _
    isplitr
    swap
    · iexact HD
    ipureintro; rfl

set_option warn.classDefReducibility false in
/-- Loop 3: plane 2. -/
@[sl_loop] noncomputable def loopInv_k0_t3 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x128 .i32) (harg7 : arg7.IsWhole) (arg8 : Memref sig .tc .vmem S4x1280x128 .i32) (harg8 : arg8.IsWhole)
    (x : Vec F S320x512 .bf16) :
    Cert.Kernel.Gen.LoopInvTy_k0_t3 (F := F) Unit ℕ (UU nD τ) ℕ 𝒱₀ c none Set.univ i arg1 harg1 arg2 harg2 arg3 harg3 arg4 harg4 arg5 harg5 arg6 harg6 arg7 harg7 arg8 harg8 where
  inv := fun k acc => FillInv c arg4 arg7 x
  step := fun k acc => by
    unfold Cert.Kernel.Gen.k0_t3_body
    unfold FillInv owns
    iintro ⟨⟨%X, %hX, HS⟩, ⟨%d, ⟨%f, %hd, HD⟩⟩⟩
    subst hX hd
    sl_exec_parts
    sl_step
    isplitl [HS]
    · iexists X
      isplitr
      · ipureintro; rfl
      iexact HS
    iexists _
    iexists _
    isplitr
    swap
    · iexact HD
    ipureintro; rfl

set_option warn.classDefReducibility false in
/-- Loop 4: plane 3. -/
@[sl_loop] noncomputable def loopInv_k0_t4 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x128 .i32) (harg7 : arg7.IsWhole) (arg8 : Memref sig .tc .vmem S4x1280x128 .i32) (harg8 : arg8.IsWhole)
    (x : Vec F S320x512 .bf16) :
    Cert.Kernel.Gen.LoopInvTy_k0_t4 (F := F) Unit ℕ (UU nD τ) ℕ 𝒱₀ c none Set.univ i arg1 harg1 arg2 harg2 arg3 harg3 arg4 harg4 arg5 harg5 arg6 harg6 arg7 harg7 arg8 harg8 where
  inv := fun k acc => FillInv c arg4 arg7 x
  step := fun k acc => by
    unfold Cert.Kernel.Gen.k0_t4_body
    unfold FillInv owns
    iintro ⟨⟨%X, %hX, HS⟩, ⟨%d, ⟨%f, %hd, HD⟩⟩⟩
    subst hX hd
    sl_exec_parts
    sl_step
    isplitl [HS]
    · iexists X
      isplitr
      · ipureintro; rfl
      iexact HS
    iexists _
    iexists _
    isplitr
    swap
    · iexact HD
    ipureintro; rfl

set_option warn.classDefReducibility false in
/-- Loop 5: plane 0. -/
@[sl_loop] noncomputable def loopInv_k0_t5 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x128 .i32) (harg7 : arg7.IsWhole) (arg8 : Memref sig .tc .vmem S4x1280x128 .i32) (harg8 : arg8.IsWhole)
    (x : Vec F S320x512 .bf16) :
    Cert.Kernel.Gen.LoopInvTy_k0_t5 (F := F) Unit ℕ (UU nD τ) ℕ 𝒱₀ c none Set.univ i arg1 harg1 arg2 harg2 arg3 harg3 arg4 harg4 arg5 harg5 arg6 harg6 arg7 harg7 arg8 harg8 where
  inv := fun k acc => FillInv c arg5 arg8 x
  step := fun k acc => by
    unfold Cert.Kernel.Gen.k0_t5_body
    unfold FillInv owns
    iintro ⟨⟨%X, %hX, HS⟩, ⟨%d, ⟨%f, %hd, HD⟩⟩⟩
    subst hX hd
    sl_exec_parts
    sl_step
    isplitl [HS]
    · iexists X
      isplitr
      · ipureintro; rfl
      iexact HS
    iexists _
    iexists _
    isplitr
    swap
    · iexact HD
    ipureintro; rfl

set_option warn.classDefReducibility false in
/-- Loop 6: plane 1. -/
@[sl_loop] noncomputable def loopInv_k0_t6 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x128 .i32) (harg7 : arg7.IsWhole) (arg8 : Memref sig .tc .vmem S4x1280x128 .i32) (harg8 : arg8.IsWhole)
    (x : Vec F S320x512 .bf16) :
    Cert.Kernel.Gen.LoopInvTy_k0_t6 (F := F) Unit ℕ (UU nD τ) ℕ 𝒱₀ c none Set.univ i arg1 harg1 arg2 harg2 arg3 harg3 arg4 harg4 arg5 harg5 arg6 harg6 arg7 harg7 arg8 harg8 where
  inv := fun k acc => FillInv c arg5 arg8 x
  step := fun k acc => by
    unfold Cert.Kernel.Gen.k0_t6_body
    unfold FillInv owns
    iintro ⟨⟨%X, %hX, HS⟩, ⟨%d, ⟨%f, %hd, HD⟩⟩⟩
    subst hX hd
    sl_exec_parts
    sl_step
    isplitl [HS]
    · iexists X
      isplitr
      · ipureintro; rfl
      iexact HS
    iexists _
    iexists _
    isplitr
    swap
    · iexact HD
    ipureintro; rfl

set_option warn.classDefReducibility false in
/-- Loop 7: plane 2. -/
@[sl_loop] noncomputable def loopInv_k0_t7 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x128 .i32) (harg7 : arg7.IsWhole) (arg8 : Memref sig .tc .vmem S4x1280x128 .i32) (harg8 : arg8.IsWhole)
    (x : Vec F S320x512 .bf16) :
    Cert.Kernel.Gen.LoopInvTy_k0_t7 (F := F) Unit ℕ (UU nD τ) ℕ 𝒱₀ c none Set.univ i arg1 harg1 arg2 harg2 arg3 harg3 arg4 harg4 arg5 harg5 arg6 harg6 arg7 harg7 arg8 harg8 where
  inv := fun k acc => FillInv c arg5 arg8 x
  step := fun k acc => by
    unfold Cert.Kernel.Gen.k0_t7_body
    unfold FillInv owns
    iintro ⟨⟨%X, %hX, HS⟩, ⟨%d, ⟨%f, %hd, HD⟩⟩⟩
    subst hX hd
    sl_exec_parts
    sl_step
    isplitl [HS]
    · iexists X
      isplitr
      · ipureintro; rfl
      iexact HS
    iexists _
    iexists _
    isplitr
    swap
    · iexact HD
    ipureintro; rfl

set_option warn.classDefReducibility false in
/-- Loop 8: plane 3. -/
@[sl_loop] noncomputable def loopInv_k0_t8 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x128 .i32) (harg7 : arg7.IsWhole) (arg8 : Memref sig .tc .vmem S4x1280x128 .i32) (harg8 : arg8.IsWhole)
    (x : Vec F S320x512 .bf16) :
    Cert.Kernel.Gen.LoopInvTy_k0_t8 (F := F) Unit ℕ (UU nD τ) ℕ 𝒱₀ c none Set.univ i arg1 harg1 arg2 harg2 arg3 harg3 arg4 harg4 arg5 harg5 arg6 harg6 arg7 harg7 arg8 harg8 where
  inv := fun k acc => FillInv c arg5 arg8 x
  step := fun k acc => by
    unfold Cert.Kernel.Gen.k0_t8_body
    unfold FillInv owns
    iintro ⟨⟨%X, %hX, HS⟩, ⟨%d, ⟨%f, %hd, HD⟩⟩⟩
    subst hX hd
    sl_exec_parts
    sl_step
    isplitl [HS]
    · iexists X
      isplitr
      · ipureintro; rfl
      iexact HS
    iexists _
    iexists _
    isplitr
    swap
    · iexact HD
    ipureintro; rfl

end Cert.Proof.Kernel
-- ==== Proof.KernelBody.lean ====
module

public import proofs.«01_k».proof.Proof.KernelLoops
public import Idealize.ShloMosaic.Lib.Claim

@[expose] public section

/-! # The kernel's body: it ends without fault and keeps its operands' blocks -/

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- A counted loop at the head of a program, by its invariant. -/
theorem loop_step (c : Dev nD) (l : Scf.Loop 32) (hok : l.OK) (body : Fin l.trips → Unit → Prog (TpuEff nD τ sig (Elt F) Λ₀ .tc) Unit)
    (L : LoopInv (M := 𝕄) frame (wpE (defs₀ (F := F)) 𝒱₀ (c : Thread nD τ) none) Set.univ l.lb l.ub l.st hok () body)
    {β : Type} {kk : Unit → Prog (TpuEff nD τ sig (Elt F) Λ₀ .tc) β} {Q : β → sProp 𝕄} :
    L.inv 0 () ⊢ iprop((∀ acc, L.inv l.trips acc -∗ wp frame (wpE (defs₀ (F := F)) 𝒱₀ (c : Thread nD τ) none) Set.univ (kk acc) Q)
      -∗ wp frame (wpE (defs₀ (F := F)) 𝒱₀ (c : Thread nD τ) none) Set.univ (Scf.Loop.for l hok () body >>= kk) Q) :=
  exec_loop _ _ _ _ _ _ _ _ _ L

/-- One of the eight loops that fill the scratch buffers. -/
theorem fill_loop (c : Dev nD) {sp sp' : Space} (S : Memref sig .tc sp S320x512 .bf16) (D : Memref sig .tc sp' S4x1280x128 .i32)
    (x : Vec F S320x512 .bf16) (l : Scf.Loop 32) (hok : l.OK) (body : Fin l.trips → Unit → Prog (TpuEff nD τ sig (Elt F) Λ₀ .tc) Unit)
    (L : LoopInv (M := 𝕄) frame (wpE (defs₀ (F := F)) 𝒱₀ (c : Thread nD τ) none) Set.univ l.lb l.ub l.st hok () body)
    (h0 : L.inv 0 () = FillInv (F := F) c S D x) (h1 : ∀ acc, L.inv l.trips acc = FillInv (F := F) c S D x)
    {β : Type} {kk : Unit → Prog (TpuEff nD τ sig (Elt F) Λ₀ .tc) β} {Q : β → sProp 𝕄} :
    FillInv (F := F) c S D x ⊢ iprop((FillInv (F := F) c S D x -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for l hok () body >>= kk) Q) := by
  have h := loop_step c l hok body L (kk := kk) (Q := Q)
  rw [h0] at h
  simp only [h1] at h
  refine h.trans ?_
  iintro H HK
  iapply H
  iintro %acc
  iexact HK

/-- The kernel's body on whole staging and scratch memrefs: it keeps its operands' blocks and leaves anything in the result's. -/
theorem sound_kernel (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x128 .i32) (harg7 : arg7.IsWhole) (arg8 : Memref sig .tc .vmem S4x1280x128 .i32) (harg8 : arg8.IsWhole)
    (x1 x2 : Vec F S48x2560 .bf16) (x3 : Vec F S1280x512 .i8) (x4 x5 : Vec F S320x512 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (∃ d, owns (c : Thread nD τ) arg7 fullShare d) ∗ (∃ d, owns (c : Thread nD τ) arg8 fullShare d)) -∗ K ⟨⟩))
      ⊢ wp frame (wpE (defs₀ (F := F)) 𝒱₀ (c : Thread nD τ) none) Set.univ (cc0_w2_linear i arg1 harg1 arg2 harg2 arg3 harg3 arg4 harg4 arg5 harg5 arg6 harg6 arg7 harg7 arg8 harg8) K := by
  simp only [cc0_w2_linear_eq_skeleton]; unfold cc0_w2_linear_skel
  simp only [k0_part17_eq_skeleton]; unfold k0_part17_skel
  iintro ⟨H1, H2, H3, H4, H5, H6, H7, H8, Hk⟩
  ihave HA : FillInv c arg4 arg7 x4 $$ [H4 H7]
  · unfold FillInv
    isplitl [H4]; · iexact H4
    iexact H7
  ihave HB : FillInv c arg5 arg8 x5 $$ [H5 H8]
  · unfold FillInv
    isplitl [H5]; · iexact H5
    iexact H8
  simp (config := { proj := false }) only [bind_assoc]
  iapply (fill_loop c arg4 arg7 x4 k0_t1_loop k0_t1_ok _ (loopInv_k0_t1 c i arg1 harg1 arg2 harg2 arg3 harg3 arg4 harg4 arg5 harg5 arg6 harg6 arg7 harg7 arg8 harg8 x4) rfl (fun _ => rfl)) $$ HA
  iintro HA
  iapply (fill_loop c arg4 arg7 x4 k0_t2_loop k0_t2_ok _ (loopInv_k0_t2 c i arg1 harg1 arg2 harg2 arg3 harg3 arg4 harg4 arg5 harg5 arg6 harg6 arg7 harg7 arg8 harg8 x4) rfl (fun _ => rfl)) $$ HA
  iintro HA
  iapply (fill_loop c arg4 arg7 x4 k0_t3_loop k0_t3_ok _ (loopInv_k0_t3 c i arg1 harg1 arg2 harg2 arg3 harg3 arg4 harg4 arg5 harg5 arg6 harg6 arg7 harg7 arg8 harg8 x4) rfl (fun _ => rfl)) $$ HA
  iintro HA
  iapply (fill_loop c arg4 arg7 x4 k0_t4_loop k0_t4_ok _ (loopInv_k0_t4 c i arg1 harg1 arg2 harg2 arg3 harg3 arg4 harg4 arg5 harg5 arg6 harg6 arg7 harg7 arg8 harg8 x4) rfl (fun _ => rfl)) $$ HA
  iintro HA
  iapply (fill_loop c arg5 arg8 x5 k0_t5_loop k0_t5_ok _ (loopInv_k0_t5 c i arg1 harg1 arg2 harg2 arg3 harg3 arg4 harg4 arg5 harg5 arg6 harg6 arg7 harg7 arg8 harg8 x5) rfl (fun _ => rfl)) $$ HB
  iintro HB
  iapply (fill_loop c arg5 arg8 x5 k0_t6_loop k0_t6_ok _ (loopInv_k0_t6 c i arg1 harg1 arg2 harg2 arg3 harg3 arg4 harg4 arg5 harg5 arg6 harg6 arg7 harg7 arg8 harg8 x5) rfl (fun _ => rfl)) $$ HB
  iintro HB
  iapply (fill_loop c arg5 arg8 x5 k0_t7_loop k0_t7_ok _ (loopInv_k0_t7 c i arg1 harg1 arg2 harg2 arg3 harg3 arg4 harg4 arg5 harg5 arg6 harg6 arg7 harg7 arg8 harg8 x5) rfl (fun _ => rfl)) $$ HB
  iintro HB
  iapply (fill_loop c arg5 arg8 x5 k0_t8_loop k0_t8_ok _ (loopInv_k0_t8 c i arg1 harg1 arg2 harg2 arg3 harg3 arg4 harg4 arg5 harg5 arg6 harg6 arg7 harg7 arg8 harg8 x5) rfl (fun _ => rfl)) $$ HB
  iintro HB
  unfold FillInv owns
  icases H1 with ⟨%f1, %hf1, H1⟩
  icases H2 with ⟨%f2, %hf2, H2⟩
  icases H3 with ⟨%f3, %hf3, H3⟩
  icases H6 with ⟨%d6, %f6, -, H6⟩
  icases HA with ⟨⟨%f4, %hf4, H4⟩, ⟨%d7, %f7, -, H7⟩⟩
  icases HB with ⟨⟨%f5, %hf5, H5⟩, ⟨%d8, %f8, -, H8⟩⟩
  subst hf1 hf2 hf3
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; exact hf4
                  iexact H4
  isplitl [H5]; · iexists f5; isplitr; · ipureintro; exact hf5
                  iexact H5
  isplitl [H6]; · iexists _, _; isplitr; swap; · iexact H6
                  ipureintro; rfl
  isplitl [H7]; · iexists _, f7; isplitr; · ipureintro; rfl
                  iexact H7
  iexists _, f8; isplitr; · ipureintro; rfl
  iexact H8

end Cert.Proof.Kernel
-- ==== Proof.KernelRun.lean ====
module

public import proofs.«01_k».proof.Proof.KernelBody
public import proofs.«01_k».proof.Proof.Gen.Kernel.Frame
public import Idealize.ShloMosaic.Lib.Claim

@[expose] public section

/-! # The run and the frame of the kernel -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data of the pipeline: the arrays as the region finds them; after the body at point `t` each input's buffer
at its block; the result's is forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => View.canon []
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-- What the body leaves in the staging buffer of window 0. -/
theorem after0_0 (c : Dev nD) (t : Fin cfg0.N) : (dats m 0 c).after 0 t = iblk m c 0 t := by dsimp only [dats]
/-- What the body leaves in the staging buffer of window 1. -/
theorem after0_1 (c : Dev nD) (t : Fin cfg0.N) : (dats m 0 c).after 1 t = iblk m c 1 t := by dsimp only [dats]
/-- What the body leaves in the staging buffer of window 2. -/
theorem after0_2 (c : Dev nD) (t : Fin cfg0.N) : (dats m 0 c).after 2 t = iblk m c 2 t := by dsimp only [dats]
/-- What the body leaves in the staging buffer of window 3. -/
theorem after0_3 (c : Dev nD) (t : Fin cfg0.N) : (dats m 0 c).after 3 t = iblk m c 3 t := by dsimp only [dats]
/-- What the body leaves in the staging buffer of window 4. -/
theorem after0_4 (c : Dev nD) (t : Fin cfg0.N) : (dats m 0 c).after 4 t = iblk m c 4 t := by dsimp only [dats]
/-- What the body finds in the staging buffer of window 0: that point's block. -/
theorem before0_0 (c : Dev nD) (t : Fin cfg0.N) (d) : (dats m 0 c).before 0 t d = iblk m c 0 t :=
  before0_0_of m (dats m 0 c) (A_eq m c 0) (after0_0 m c) t d
/-- What the body finds in the staging buffer of window 1: that point's block. -/
theorem before0_1 (c : Dev nD) (t : Fin cfg0.N) (d) : (dats m 0 c).before 1 t d = iblk m c 1 t :=
  before0_1_of m (dats m 0 c) (A_eq m c 1) (after0_1 m c) t d
/-- What the body finds in the staging buffer of window 2: that point's block. -/
theorem before0_2 (c : Dev nD) (t : Fin cfg0.N) (d) : (dats m 0 c).before 2 t d = iblk m c 2 t :=
  before0_2_of m (dats m 0 c) (A_eq m c 2) (after0_2 m c) t d
/-- What the body finds in the staging buffer of window 3: that point's block. -/
theorem before0_3 (c : Dev nD) (t : Fin cfg0.N) (d) : (dats m 0 c).before 3 t d = iblk m c 3 t :=
  before0_3_of m (dats m 0 c) (A_eq m c 3) (after0_3 m c) t d
/-- What the body finds in the staging buffer of window 4: that point's block. -/
theorem before0_4 (c : Dev nD) (t : Fin cfg0.N) (d) : (dats m 0 c).before 4 t d = iblk m c 4 t :=
  before0_4_of m (dats m 0 c) (A_eq m c 4) (after0_4 m c) t d

/-- A whole buffer's ownership as its memref's. -/
theorem whole_owns (c : Dev nD) (b : Ref sig .tc) (f : Buf (Elt F) ((c : Thread nD τ).loc b)) :
    ((((c : Thread nD τ).loc b) ↦{fullShare} f : sProp 𝕄)) ⊢ iprop(∃ d, owns (c : Thread nD τ) (Memref.whole b) fullShare d) := by
  iintro H
  iexists ((Memref.whole b).view.read (Elt F) f)
  unfold owns
  iexists f
  isplitr
  · ipureintro; rfl
  rw [(Memref.isWhole_whole b).set_eq_univ]
  iexact H

/-- And back. -/
theorem owns_whole (c : Dev nD) (b : Ref sig .tc) :
    (iprop(∃ d, owns (c : Thread nD τ) (Memref.whole b) fullShare d) : sProp 𝕄) ⊢ iprop(∃ f : Buf (Elt F) ((c : Thread nD τ).loc b), ((c : Thread nD τ).loc b) ↦{fullShare} f) := by
  iintro ⟨%d, H⟩
  unfold owns
  icases H with ⟨%f, -, H⟩
  rw [(Memref.isWhole_whole b).set_eq_univ]
  iexists f
  iexact H

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

/-- The body at any point, from `sound_kernel` at its buffers and blocks. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4,
    show (dats m 0 c).Φ t.castSucc = Pipeline.ΦA spec0 c from rfl]
  unfold Pipeline.ΦA
  rw [scopedRest0_eq]
  iintro ⟨⟨⟨⟨%g7, H7⟩, ⟨%g8, H8⟩⟩, Hp⟩, Ho, ⟨%d0, H0⟩, ⟨%d1, H1⟩, ⟨%d2, H2⟩, ⟨%d3, H3⟩, ⟨%d4, H4⟩, H5⟩
  ihave H7 := (whole_owns c cc0_scratch0 g7) $$ H7
  ihave H8 := (whole_owns c cc0_scratch1 g8) $$ H8
  iapply (sound_kernel c _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  iintro ⟨H0, H1, H2, H3, H4, H5, H7, H8⟩
  ihave H7 := (owns_whole c cc0_scratch0) $$ H7
  ihave H8 := (owns_whole c cc0_scratch1) $$ H8
  isplitl [H7 H8 Hp]
  · isplitl [H7 H8]
    · isplitl [H7]; · iexact H7
      iexact H8
    iexact Hp
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The result's window, which the proof data forgets. -/
def fgt (w : Fin cfg0.W) : Bool := match w with
  | ⟨0, _⟩ => false
  | ⟨1, _⟩ => false
  | ⟨2, _⟩ => false
  | ⟨3, _⟩ => false
  | ⟨4, _⟩ => false
  | ⟨5, _⟩ => true

/-- The body obligation at every point. -/
theorem body_obligation (c : Dev nD) : Pipeline.BodyObligationLoose (dats (F := F) m 0 c) (defs₀ (F := F)) 𝒱₀ () Set.univ fgt := fun t => by
  rw [bigSep_W0, bigSep_W0, defs₀_row]
  exact triple_restated (sound_body m c t) rfl .rfl fun _ => .rfl

set_option backward.isDefEq.respectTransparency.types false in
/-- The launch: every input array of the pipeline ends as the region found it, and every counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => body_obligation m c) (hshare := fun c => (dats m 0 c).share_full fun _ => rfl)
    (howed := fun _ _ => rfl) (V := V m) (hmain := hmain m 𝒱₀) (hA := A_eq m) (hΦ := fun _ _ => rfl)

/-- The frame: the argument arrays end unchanged and every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r (h : _ ∧ _) => ⟨fun c => ⟨(h.1 c).2 main_arg0 (Pipeline.mem_restRefs_of main_arg0 (by decide) (by decide)) |>.trans (V_main_arg0 m c),
      (h.1.arr_in c 2 rfl).trans ((A_eq m c 2).trans (V_main_arg1 m c)),
      (h.1.arr_in c 3 rfl).trans ((A_eq m c 3).trans (V_main_arg2 m c)),
      (h.1.arr_in c 4 rfl).trans ((A_eq m c 4).trans (V_main_arg3 m c))⟩, h.2⟩) (run_main_quiescent m ρ)

end Cert.Proof.Kernel

end
-- ==== Proof.Fill.lean ====
module

public import proofs.«01_k».proof.Proof.Gen.KernelIdeal.Loops
public import proofs.«01_k».proof.Proof.Gen.KernelIdeal.Frame
public import Idealize.ShloMosaic.Lib.Pipeline.ValueKit
public import Idealize.ShloMosaic.Lib.Bf16PairInverse

@[expose] public section

/-! # The replicated scales: what the trips of the expansion loops leave in the scratch buffers -/

set_option maxRecDepth 16384
noncomputable section
namespace Cert.Proof.KernelIdeal

open Cert.KernelIdeal Cert.KernelIdeal.Gen
open Idealize.ShloMosaic Idealize.ShloMosaic.TcCoe Idealize.ShloMosaic.Tactic
open Idealize.SL Idealize.SL.Sem

variable {F : FTy → Type} [FloatOps F]

/-- Eight rows of 32-bit words: `lo` in the even rows of each pair, `hi` in the odd ones. -/
def pk (lo hi : FVec F S8x128 .bf16) : Vec F S1x8x2x128 .bf16 :=
  interleaveRows S1x8x2x128 (shapeCast S1x8x1x128 (shapeCast S1x8x128 lo shapeCasts_S8x128_S1x8x128) shapeCasts_S1x8x128_S1x8x1x128) (shapeCast S1x8x1x128 (shapeCast S1x8x128 hi shapeCasts_S8x128_S1x8x128) shapeCasts_S1x8x128_S1x8x1x128) bitcasts_S1x8x2x128_w16_S1x8x1x128_w32

/-- With both halves the same, either row of a pair is that half. -/
theorem pk_apply (lo : FVec F S8x128 .bf16) (y : S1x8x2x128.Idx) : pk lo lo y = lo (ix2 (y 1) (y 3)) := by
  pointwise [pk]
  split <;> rfl

/-- Widened to f32 and rounded back: the cast the expansion makes before it packs. -/
def RT {S : Shape} (V : Vec F S .bf16) : FVec F S .bf16 := truncf .bf16 (extf .f32 V bitsLt_bf16_f32) bitsLt_bf16_f32

/-- `RT` acts element by element. -/
theorem RT_congr {S T : Shape} {U : Vec F S .bf16} {V : Vec F T .bf16} {a : S.Idx} {b : T.Idx} (h : U a = V b) : RT U a = RT V b := by
  show FloatOps.truncf _ _ (FloatOps.extf _ _ (U a)) = FloatOps.truncf _ _ (FloatOps.extf _ _ (V b))
  rw [h]

/-- What a scratch buffer holds once filled from `V`: plane `p`, word row `r`, lane `l` hold element
`(r / 4, 128 p + l)` of `V`, twice. -/
def W (V : Vec F S320x512 .bf16) : Vec F S4x1280x2x128 .bf16 := fun i =>
  RT V (ix2 ⟨(i 1).val / 4, by have := (i 1).isLt; simp at this; omega⟩ ⟨128 * (i 0).val + (i 3).val, by have h0 := (i 0).isLt; have h3 := (i 3).isLt; simp at h0 h3; omega⟩)

/-- The first `n` of the 80 trips (20 for each plane) have filled their part of the buffer. -/
def Filled (V : Vec F S320x512 .bf16) (n : ℕ) (v : Vec F S4x1280x2x128 .bf16) : Prop :=
  ∀ i, 20 * (i 0).val + (i 1).val / 64 < n → v i = W V i

/-- Rows `8 h` to `8 h + 7` of a block of sixteen. -/
def half (h : Fin 2) (src : FVec F S16x128 .bf16) : FVec F S8x128 .bf16 :=
  match h with
  | 0 => extractStridedSlice S8x128 ![0, 0] src slices_S16x128_o0_0_S8x128
  | 1 => extractStridedSlice S8x128 ![8, 0] src slices_S16x128_o8_0_S8x128

/-- `half`, element by element. -/
theorem half_apply (h : Fin 2) (src : FVec F S16x128 .bf16) (x : S8x128.Idx) :
    half h src x = src (ix2 ⟨8 * h.val + (x 0).val, by have := (x 0).isLt; simp at this; omega⟩ (x 1)) := by
  match h with
  | 0 => pointwise [half]
  | 1 => pointwise [half]

/-- One strided store: row group `h` into the word rows congruent to `j` modulo 4. -/
abbrev pieceAt (off : Fin 2 → Fin 4 → Fin 4 → ℕ)
    (inb : ∀ h j a, S1x8x2x128.size a = 0 ∨ off h j a + (![1, 4, 1, 1] : Fin 4 → ℕ) a * (S1x8x2x128.size a - 1) < S4x1280x2x128.size a)
    (src : FVec F S16x128 .bf16) (h : Fin 2) (j : Fin 4) : View.Piece (Elt F) S4x1280x2x128 .bf16 :=
  ⟨⟨⟨off h j, S1x8x2x128.size, ![1, 4, 1, 1], inb h j⟩, spos_1_4_1_1⟩, pk (half h src) (half h src)⟩

/-- The eight stores of one trip, the last first. -/
abbrev trip (off : Fin 2 → Fin 4 → Fin 4 → ℕ)
    (inb : ∀ h j a, S1x8x2x128.size a = 0 ∨ off h j a + (![1, 4, 1, 1] : Fin 4 → ℕ) a * (S1x8x2x128.size a - 1) < S4x1280x2x128.size a)
    (src : FVec F S16x128 .bf16) : List (View.Piece (Elt F) S4x1280x2x128 .bf16) :=
  [pieceAt off inb src 1 3, pieceAt off inb src 1 2, pieceAt off inb src 1 1, pieceAt off inb src 1 0,
    pieceAt off inb src 0 3, pieceAt off inb src 0 2, pieceAt off inb src 0 1, pieceAt off inb src 0 0]

variable {sp : Space}

/-- What one store writes is what the filled buffer holds there. -/
theorem piece_ok (V : Vec F S320x512 .bf16) {p t : ℕ} (hp : p < 4) (ht : t < 20) (off : Fin 2 → Fin 4 → Fin 4 → ℕ)
    (hoff : ∀ h j, off h j = ![p, 64 * t + 32 * h.val + j.val, 0, 0])
    (inb : ∀ h j a, S1x8x2x128.size a = 0 ∨ off h j a + (![1, 4, 1, 1] : Fin 4 → ℕ) a * (S1x8x2x128.size a - 1) < S4x1280x2x128.size a)
    (src : FVec F S16x128 .bf16)
    (hsrc : ∀ (a : Fin 16) (b : Fin 128), src (ix2 a b) = RT V (ix2 ⟨16 * t + a.val, by omega⟩ ⟨128 * p + b.val, by omega⟩))
    (h : Fin 2) (j : Fin 4) (x : S1x8x2x128.Idx) :
    (pieceAt off inb src h j).2 x = W V ((pieceAt off inb src h j).1.emb x) := by
  show pk (half h src) (half h src) x = _
  rw [pk_apply, half_apply]
  refine (hsrc _ _).trans ?_
  unfold W
  have h0 : ((pieceAt off inb src h j).1.emb x 0).val = p := by
    have := (x 0).isLt
    simp only [S1x8x2x128] at this
    show off h j 0 + 1 * (x 0).val = p
    rw [hoff]; simp at this ⊢ <;> omega
  have h1 : ((pieceAt off inb src h j).1.emb x 1).val = 64 * t + 32 * h.val + j.val + 4 * (x 1).val := by
    show off h j 1 + 4 * (x 1).val = _
    rw [hoff]; rfl
  have h3 : ((pieceAt off inb src h j).1.emb x 3).val = (x 3).val := by
    show off h j 3 + 1 * (x 3).val = _
    rw [hoff]; simp
  congr 1
  refine congrArg₂ ix2 (Fin.ext ?_) (Fin.ext ?_)
  · show 16 * t + (8 * h.val + (x 1).val) = _ / 4
    rw [h1]; omega
  · show 128 * p + (x 3).val = 128 * _ + _
    rw [h0, h3]

/-- One trip over rows `16 t` to `16 t + 15` extends the filled part by one. -/
theorem filled_step {κ : Kind} (v : View sig κ sp S4x1280x2x128 .bf16) (f : v.ty.Contents (Elt F)) (V : Vec F S320x512 .bf16) {p t : ℕ} (hp : p < 4) (ht : t < 20)
    (off : Fin 2 → Fin 4 → Fin 4 → ℕ)
    (hoff : ∀ h j, off h j = ![p, 64 * t + 32 * h.val + j.val, 0, 0])
    (inb : ∀ h j a, S1x8x2x128.size a = 0 ∨ off h j a + (![1, 4, 1, 1] : Fin 4 → ℕ) a * (S1x8x2x128.size a - 1) < S4x1280x2x128.size a)
    (src : FVec F S16x128 .bf16)
    (hsrc : ∀ (a : Fin 16) (b : Fin 128), src (ix2 a b) = RT V (ix2 ⟨16 * t + a.val, by omega⟩ ⟨128 * p + b.val, by omega⟩))
    (hf : Filled V (20 * p + t) (v.read (Elt F) f)) :
    Filled V (20 * p + (t + 1)) (v.read (Elt F) (v.writes (Elt F) f (trip off inb src))) := by
  have hL : ∀ q ∈ trip off inb src, ∃ h j, q = pieceAt off inb src h j := by
    intro q hq
    simp only [trip, List.mem_cons, List.not_mem_nil, or_false] at hq
    rcases hq with rfl | rfl | rfl | rfl | rfl | rfl | rfl | rfl <;> exact ⟨_, _, rfl⟩
  have hM : ∀ h j, pieceAt off inb src h j ∈ trip off inb src := by
    intro h j
    fin_cases h <;> fin_cases j <;> simp [trip]
  intro i hi
  by_cases hc : ∃ q ∈ trip off inb src, i ∈ q.1.set
  · refine View.read_writes_apply_of_pieces v f (W V) _ (fun q hq x => ?_) i hc
    obtain ⟨h, j, rfl⟩ := hL q hq
    exact piece_ok V hp ht off hoff inb src hsrc h j x
  · rw [View.read_writes_apply_of_forall_not_mem v f i _ (fun q hq hm => hc ⟨q, hq, hm⟩)]
    refine hf i ?_
    by_contra hn
    have i0 := (i 0).isLt
    have i1 := (i 1).isLt
    have i2 := (i 2).isLt
    have i3 := (i 3).isLt
    simp at i0 i1 i2 i3
    have e0 : (i 0).val = p := by omega
    have e1 : (i 1).val / 64 = t := by omega
    refine hc ⟨_, hM ⟨(i 1).val % 64 / 32, by omega⟩ ⟨(i 1).val % 4, by omega⟩, ?_⟩
    rw [LoadRect.mem_set]
    intro a
    refine ⟨![0, (i 1).val % 32 / 4, (i 2).val, (i 3).val] a, ?_, ?_⟩
    · fin_cases a <;> simp <;> omega
    · show _ = off _ _ a + _
      rw [hoff]
      fin_cases a <;> simp <;> omega

/-- `filled_step` with the source read from the scale's buffer. -/
theorem filled_trip {κ κ' : Kind} {sp' : Space} (v : View sig κ sp S4x1280x2x128 .bf16) (f : v.ty.Contents (Elt F))
    (w : View sig κ' sp' S320x512 .bf16) (X : w.ty.Contents (Elt F)) {p t : ℕ} (hp : p < 4) (ht : t < 20)
    (off : Fin 2 → Fin 4 → Fin 4 → ℕ)
    (hoff : ∀ h j, off h j = ![p, 64 * t + 32 * h.val + j.val, 0, 0])
    (inb : ∀ h j a, S1x8x2x128.size a = 0 ∨ off h j a + (![1, 4, 1, 1] : Fin 4 → ℕ) a * (S1x8x2x128.size a - 1) < S4x1280x2x128.size a)
    (off' : Fin 2 → ℕ) (hoff' : off' = ![16 * t, 128 * p]) (inb' : ∀ a, off' a + S16x128.size a ≤ S320x512.size a)
    (hf : Filled (w.read (Elt F) X) (20 * p + t) (v.read (Elt F) f)) :
    Filled (w.read (Elt F) X) (20 * p + (t + 1)) (v.read (Elt F) (v.writes (Elt F) f (trip off inb
      (RT (w.readAt (Elt F) (Rect.unit (s := S320x512) off' S16x128.size inb').toLoadRect X))))) := by
  refine filled_step v f _ hp ht off hoff inb _ (fun a b => ?_) hf
  subst hoff'
  refine RT_congr ?_
  show w.read (Elt F) X _ = w.read (Elt F) X _
  refine congrArg _ (funext fun d => Fin.ext ?_)
  fin_cases d
  · show 16 * t + 1 * a.val = 16 * t + a.val
    omega
  · show 128 * p + 1 * b.val = 128 * p + b.val
    omega

/-- Nothing is filled at the start. -/
theorem filled_zero (V : Vec F S320x512 .bf16) (v : Vec F S4x1280x2x128 .bf16) : Filled V 0 v :=
  fun i hi => absurd hi (Nat.not_lt_zero _)

/-- After all trips the buffer is `W V`. -/
theorem filled_all {V : Vec F S320x512 .bf16} {v : Vec F S4x1280x2x128 .bf16} (h : Filled V 80 v) : v = W V := by
  funext i
  refine h i ?_
  have i0 := (i 0).isLt
  have i1 := (i 1).isLt
  simp at i0 i1
  omega

end Cert.Proof.KernelIdeal
-- ==== Proof.IdealLoops.lean ====
module

public import proofs.«01_k».proof.Proof.Gen.KernelIdeal.Loops
public import proofs.«01_k».proof.Proof.Fill

@[expose] public section

/-! # The expansion loops: the invariant of each -/

noncomputable section
namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra the invariants are stated over. -/
abbrev UU (nD : Nat) (τ : Topo) : Type := UR sig nD τ
/-- No loop of the program needs a variant. -/
abbrev 𝒱₀ : Variants := Variants.none

local notation "𝕄" => MT nD τ sig Unit (Elt F) ℕ (UR sig nD τ) ℕ

/-- The source's buffer at `x`, and the scratch buffer filled up to trip `n`. -/
def FillInv (c : Dev nD) {sp sp' : Space} (S : Memref sig .tc sp S320x512 .bf16) (D : Memref sig .tc sp' S4x1280x2x128 .bf16)
    (x : Vec F S320x512 .bf16) (n : ℕ) : sProp 𝕄 :=
  iprop(owns (c : Thread nD τ) S fullShare x ∗ ∃ d, owns (c : Thread nD τ) D fullShare d ∗ ⌜Filled x n d⌝)

set_option maxRecDepth 16384

/-- Loop 1 makes twenty trips. -/
theorem k0_t1_lt (k : Fin k0_t1_loop.trips) : k.val < 20 := lt_of_lt_of_eq k.isLt (by decide +kernel)

/-- Loop 2 makes twenty trips. -/
theorem k0_t2_lt (k : Fin k0_t2_loop.trips) : k.val < 20 := lt_of_lt_of_eq k.isLt (by decide +kernel)

/-- Loop 3 makes twenty trips. -/
theorem k0_t3_lt (k : Fin k0_t3_loop.trips) : k.val < 20 := lt_of_lt_of_eq k.isLt (by decide +kernel)

/-- Loop 4 makes twenty trips. -/
theorem k0_t4_lt (k : Fin k0_t4_loop.trips) : k.val < 20 := lt_of_lt_of_eq k.isLt (by decide +kernel)

/-- Loop 5 makes twenty trips. -/
theorem k0_t5_lt (k : Fin k0_t5_loop.trips) : k.val < 20 := lt_of_lt_of_eq k.isLt (by decide +kernel)

/-- Loop 6 makes twenty trips. -/
theorem k0_t6_lt (k : Fin k0_t6_loop.trips) : k.val < 20 := lt_of_lt_of_eq k.isLt (by decide +kernel)

/-- Loop 7 makes twenty trips. -/
theorem k0_t7_lt (k : Fin k0_t7_loop.trips) : k.val < 20 := lt_of_lt_of_eq k.isLt (by decide +kernel)

/-- Loop 8 makes twenty trips. -/
theorem k0_t8_lt (k : Fin k0_t8_loop.trips) : k.val < 20 := lt_of_lt_of_eq k.isLt (by decide +kernel)

set_option warn.classDefReducibility false in
/-- Loop 1: plane 0. -/
@[sl_loop] noncomputable def loopInv_k0_t1 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x2x128 .bf16) (harg7 : arg7.IsWhole) (arg8 : Memref sig .tc .vmem S4x1280x2x128 .bf16) (harg8 : arg8.IsWhole)
    (x : Vec F S320x512 .bf16) :
    Cert.KernelIdeal.Gen.LoopInvTy_k0_t1 (F := F) Unit ℕ (UU nD τ) ℕ 𝒱₀ c none Set.univ i arg1 harg1 arg2 harg2 arg3 harg3 arg4 harg4 arg5 harg5 arg6 harg6 arg7 harg7 arg8 harg8 where
  inv := fun k acc => FillInv c arg4 arg7 x (20 * 0 + k)
  step := fun k acc => by
    unfold Cert.KernelIdeal.Gen.k0_t1_body
    unfold FillInv owns
    iintro ⟨⟨%X, %hX, HS⟩, ⟨%d, ⟨%f, %hd, HD⟩, %hf⟩⟩
    subst hX hd
    sl_exec_parts
    sl_step
    isplitl [HS]
    · iexists X
      isplitr
      · ipureintro; rfl
      iexact HS
    iexists _
    isplitl [HD]
    · iexists _
      isplitr
      swap
      · iexact HD
      ipureintro; rfl
    ipureintro
    exact filled_trip arg7.view f arg4.view X (p := 0) (by decide) (k0_t1_lt k)
      (fun h j => k0_off2 k (BitVec.ofNat 32 (8 * h.val)) (BitVec.ofNat 32 j.val)) (Cert.KernelIdeal.Gen.k0_off2_eq k) (Cert.KernelIdeal.Gen.k0_off2_inb k)
      (k0_off1 k) (Cert.KernelIdeal.Gen.k0_off1_eq k) (Cert.KernelIdeal.Gen.k0_off1_inb k) hf

set_option warn.classDefReducibility false in
/-- Loop 2: plane 1. -/
@[sl_loop] noncomputable def loopInv_k0_t2 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x2x128 .bf16) (harg7 : arg7.IsWhole) (arg8 : Memref sig .tc .vmem S4x1280x2x128 .bf16) (harg8 : arg8.IsWhole)
    (x : Vec F S320x512 .bf16) :
    Cert.KernelIdeal.Gen.LoopInvTy_k0_t2 (F := F) Unit ℕ (UU nD τ) ℕ 𝒱₀ c none Set.univ i arg1 harg1 arg2 harg2 arg3 harg3 arg4 harg4 arg5 harg5 arg6 harg6 arg7 harg7 arg8 harg8 where
  inv := fun k acc => FillInv c arg4 arg7 x (20 * 1 + k)
  step := fun k acc => by
    unfold Cert.KernelIdeal.Gen.k0_t2_body
    unfold FillInv owns
    iintro ⟨⟨%X, %hX, HS⟩, ⟨%d, ⟨%f, %hd, HD⟩, %hf⟩⟩
    subst hX hd
    sl_exec_parts
    sl_step
    isplitl [HS]
    · iexists X
      isplitr
      · ipureintro; rfl
      iexact HS
    iexists _
    isplitl [HD]
    · iexists _
      isplitr
      swap
      · iexact HD
      ipureintro; rfl
    ipureintro
    exact filled_trip arg7.view f arg4.view X (p := 1) (by decide) (k0_t2_lt k)
      (fun h j => k0_off4 k (BitVec.ofNat 32 (8 * h.val)) (BitVec.ofNat 32 j.val)) (Cert.KernelIdeal.Gen.k0_off4_eq k) (Cert.KernelIdeal.Gen.k0_off4_inb k)
      (k0_off3 k) (Cert.KernelIdeal.Gen.k0_off3_eq k) (Cert.KernelIdeal.Gen.k0_off3_inb k) hf

set_option warn.classDefReducibility false in
/-- Loop 3: plane 2. -/
@[sl_loop] noncomputable def loopInv_k0_t3 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x2x128 .bf16) (harg7 : arg7.IsWhole) (arg8 : Memref sig .tc .vmem S4x1280x2x128 .bf16) (harg8 : arg8.IsWhole)
    (x : Vec F S320x512 .bf16) :
    Cert.KernelIdeal.Gen.LoopInvTy_k0_t3 (F := F) Unit ℕ (UU nD τ) ℕ 𝒱₀ c none Set.univ i arg1 harg1 arg2 harg2 arg3 harg3 arg4 harg4 arg5 harg5 arg6 harg6 arg7 harg7 arg8 harg8 where
  inv := fun k acc => FillInv c arg4 arg7 x (20 * 2 + k)
  step := fun k acc => by
    unfold Cert.KernelIdeal.Gen.k0_t3_body
    unfold FillInv owns
    iintro ⟨⟨%X, %hX, HS⟩, ⟨%d, ⟨%f, %hd, HD⟩, %hf⟩⟩
    subst hX hd
    sl_exec_parts
    sl_step
    isplitl [HS]
    · iexists X
      isplitr
      · ipureintro; rfl
      iexact HS
    iexists _
    isplitl [HD]
    · iexists _
      isplitr
      swap
      · iexact HD
      ipureintro; rfl
    ipureintro
    exact filled_trip arg7.view f arg4.view X (p := 2) (by decide) (k0_t3_lt k)
      (fun h j => k0_off6 k (BitVec.ofNat 32 (8 * h.val)) (BitVec.ofNat 32 j.val)) (Cert.KernelIdeal.Gen.k0_off6_eq k) (Cert.KernelIdeal.Gen.k0_off6_inb k)
      (k0_off5 k) (Cert.KernelIdeal.Gen.k0_off5_eq k) (Cert.KernelIdeal.Gen.k0_off5_inb k) hf

set_option warn.classDefReducibility false in
/-- Loop 4: plane 3. -/
@[sl_loop] noncomputable def loopInv_k0_t4 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x2x128 .bf16) (harg7 : arg7.IsWhole) (arg8 : Memref sig .tc .vmem S4x1280x2x128 .bf16) (harg8 : arg8.IsWhole)
    (x : Vec F S320x512 .bf16) :
    Cert.KernelIdeal.Gen.LoopInvTy_k0_t4 (F := F) Unit ℕ (UU nD τ) ℕ 𝒱₀ c none Set.univ i arg1 harg1 arg2 harg2 arg3 harg3 arg4 harg4 arg5 harg5 arg6 harg6 arg7 harg7 arg8 harg8 where
  inv := fun k acc => FillInv c arg4 arg7 x (20 * 3 + k)
  step := fun k acc => by
    unfold Cert.KernelIdeal.Gen.k0_t4_body
    unfold FillInv owns
    iintro ⟨⟨%X, %hX, HS⟩, ⟨%d, ⟨%f, %hd, HD⟩, %hf⟩⟩
    subst hX hd
    sl_exec_parts
    sl_step
    isplitl [HS]
    · iexists X
      isplitr
      · ipureintro; rfl
      iexact HS
    iexists _
    isplitl [HD]
    · iexists _
      isplitr
      swap
      · iexact HD
      ipureintro; rfl
    ipureintro
    exact filled_trip arg7.view f arg4.view X (p := 3) (by decide) (k0_t4_lt k)
      (fun h j => k0_off8 k (BitVec.ofNat 32 (8 * h.val)) (BitVec.ofNat 32 j.val)) (Cert.KernelIdeal.Gen.k0_off8_eq k) (Cert.KernelIdeal.Gen.k0_off8_inb k)
      (k0_off7 k) (Cert.KernelIdeal.Gen.k0_off7_eq k) (Cert.KernelIdeal.Gen.k0_off7_inb k) hf

set_option warn.classDefReducibility false in
/-- Loop 5: plane 0. -/
@[sl_loop] noncomputable def loopInv_k0_t5 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x2x128 .bf16) (harg7 : arg7.IsWhole) (arg8 : Memref sig .tc .vmem S4x1280x2x128 .bf16) (harg8 : arg8.IsWhole)
    (x : Vec F S320x512 .bf16) :
    Cert.KernelIdeal.Gen.LoopInvTy_k0_t5 (F := F) Unit ℕ (UU nD τ) ℕ 𝒱₀ c none Set.univ i arg1 harg1 arg2 harg2 arg3 harg3 arg4 harg4 arg5 harg5 arg6 harg6 arg7 harg7 arg8 harg8 where
  inv := fun k acc => FillInv c arg5 arg8 x (20 * 0 + k)
  step := fun k acc => by
    unfold Cert.KernelIdeal.Gen.k0_t5_body
    unfold FillInv owns
    iintro ⟨⟨%X, %hX, HS⟩, ⟨%d, ⟨%f, %hd, HD⟩, %hf⟩⟩
    subst hX hd
    sl_exec_parts
    sl_step
    isplitl [HS]
    · iexists X
      isplitr
      · ipureintro; rfl
      iexact HS
    iexists _
    isplitl [HD]
    · iexists _
      isplitr
      swap
      · iexact HD
      ipureintro; rfl
    ipureintro
    exact filled_trip arg8.view f arg5.view X (p := 0) (by decide) (k0_t5_lt k)
      (fun h j => k0_off10 k (BitVec.ofNat 32 (8 * h.val)) (BitVec.ofNat 32 j.val)) (Cert.KernelIdeal.Gen.k0_off10_eq k) (Cert.KernelIdeal.Gen.k0_off10_inb k)
      (k0_off9 k) (Cert.KernelIdeal.Gen.k0_off9_eq k) (Cert.KernelIdeal.Gen.k0_off9_inb k) hf

set_option warn.classDefReducibility false in
/-- Loop 6: plane 1. -/
@[sl_loop] noncomputable def loopInv_k0_t6 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x2x128 .bf16) (harg7 : arg7.IsWhole) (arg8 : Memref sig .tc .vmem S4x1280x2x128 .bf16) (harg8 : arg8.IsWhole)
    (x : Vec F S320x512 .bf16) :
    Cert.KernelIdeal.Gen.LoopInvTy_k0_t6 (F := F) Unit ℕ (UU nD τ) ℕ 𝒱₀ c none Set.univ i arg1 harg1 arg2 harg2 arg3 harg3 arg4 harg4 arg5 harg5 arg6 harg6 arg7 harg7 arg8 harg8 where
  inv := fun k acc => FillInv c arg5 arg8 x (20 * 1 + k)
  step := fun k acc => by
    unfold Cert.KernelIdeal.Gen.k0_t6_body
    unfold FillInv owns
    iintro ⟨⟨%X, %hX, HS⟩, ⟨%d, ⟨%f, %hd, HD⟩, %hf⟩⟩
    subst hX hd
    sl_exec_parts
    sl_step
    isplitl [HS]
    · iexists X
      isplitr
      · ipureintro; rfl
      iexact HS
    iexists _
    isplitl [HD]
    · iexists _
      isplitr
      swap
      · iexact HD
      ipureintro; rfl
    ipureintro
    exact filled_trip arg8.view f arg5.view X (p := 1) (by decide) (k0_t6_lt k)
      (fun h j => k0_off12 k (BitVec.ofNat 32 (8 * h.val)) (BitVec.ofNat 32 j.val)) (Cert.KernelIdeal.Gen.k0_off12_eq k) (Cert.KernelIdeal.Gen.k0_off12_inb k)
      (k0_off11 k) (Cert.KernelIdeal.Gen.k0_off11_eq k) (Cert.KernelIdeal.Gen.k0_off11_inb k) hf

set_option warn.classDefReducibility false in
/-- Loop 7: plane 2. -/
@[sl_loop] noncomputable def loopInv_k0_t7 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x2x128 .bf16) (harg7 : arg7.IsWhole) (arg8 : Memref sig .tc .vmem S4x1280x2x128 .bf16) (harg8 : arg8.IsWhole)
    (x : Vec F S320x512 .bf16) :
    Cert.KernelIdeal.Gen.LoopInvTy_k0_t7 (F := F) Unit ℕ (UU nD τ) ℕ 𝒱₀ c none Set.univ i arg1 harg1 arg2 harg2 arg3 harg3 arg4 harg4 arg5 harg5 arg6 harg6 arg7 harg7 arg8 harg8 where
  inv := fun k acc => FillInv c arg5 arg8 x (20 * 2 + k)
  step := fun k acc => by
    unfold Cert.KernelIdeal.Gen.k0_t7_body
    unfold FillInv owns
    iintro ⟨⟨%X, %hX, HS⟩, ⟨%d, ⟨%f, %hd, HD⟩, %hf⟩⟩
    subst hX hd
    sl_exec_parts
    sl_step
    isplitl [HS]
    · iexists X
      isplitr
      · ipureintro; rfl
      iexact HS
    iexists _
    isplitl [HD]
    · iexists _
      isplitr
      swap
      · iexact HD
      ipureintro; rfl
    ipureintro
    exact filled_trip arg8.view f arg5.view X (p := 2) (by decide) (k0_t7_lt k)
      (fun h j => k0_off14 k (BitVec.ofNat 32 (8 * h.val)) (BitVec.ofNat 32 j.val)) (Cert.KernelIdeal.Gen.k0_off14_eq k) (Cert.KernelIdeal.Gen.k0_off14_inb k)
      (k0_off13 k) (Cert.KernelIdeal.Gen.k0_off13_eq k) (Cert.KernelIdeal.Gen.k0_off13_inb k) hf

set_option warn.classDefReducibility false in
/-- Loop 8: plane 3. -/
@[sl_loop] noncomputable def loopInv_k0_t8 (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x2x128 .bf16) (harg7 : arg7.IsWhole) (arg8 : Memref sig .tc .vmem S4x1280x2x128 .bf16) (harg8 : arg8.IsWhole)
    (x : Vec F S320x512 .bf16) :
    Cert.KernelIdeal.Gen.LoopInvTy_k0_t8 (F := F) Unit ℕ (UU nD τ) ℕ 𝒱₀ c none Set.univ i arg1 harg1 arg2 harg2 arg3 harg3 arg4 harg4 arg5 harg5 arg6 harg6 arg7 harg7 arg8 harg8 where
  inv := fun k acc => FillInv c arg5 arg8 x (20 * 3 + k)
  step := fun k acc => by
    unfold Cert.KernelIdeal.Gen.k0_t8_body
    unfold FillInv owns
    iintro ⟨⟨%X, %hX, HS⟩, ⟨%d, ⟨%f, %hd, HD⟩, %hf⟩⟩
    subst hX hd
    sl_exec_parts
    sl_step
    isplitl [HS]
    · iexists X
      isplitr
      · ipureintro; rfl
      iexact HS
    iexists _
    isplitl [HD]
    · iexists _
      isplitr
      swap
      · iexact HD
      ipureintro; rfl
    ipureintro
    exact filled_trip arg8.view f arg5.view X (p := 3) (by decide) (k0_t8_lt k)
      (fun h j => k0_off16 k (BitVec.ofNat 32 (8 * h.val)) (BitVec.ofNat 32 j.val)) (Cert.KernelIdeal.Gen.k0_off16_eq k) (Cert.KernelIdeal.Gen.k0_off16_inb k)
      (k0_off15 k) (Cert.KernelIdeal.Gen.k0_off15_eq k) (Cert.KernelIdeal.Gen.k0_off15_inb k) hf

end Cert.Proof.KernelIdeal
-- ==== Proof.IdealBody.lean ====
module

public import proofs.«01_k».proof.Proof.IdealLoops
public import Idealize.ShloMosaic.Lib.Claim

@[expose] public section

/-! # The ideal kernel's body: the expansion loops, and what the body leaves in the result's buffer -/

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A counted loop at the head of a program, by its invariant. -/
theorem loop_step (c : Dev nD) (l : Scf.Loop 32) (hok : l.OK) (body : Fin l.trips → Unit → Prog (TpuEff nD τ sig (Elt F) Λ₀ .tc) Unit)
    (L : LoopInv (M := 𝕄) frame (wpE (defs₀ (F := F)) 𝒱₀ (c : Thread nD τ) none) Set.univ l.lb l.ub l.st hok () body)
    {β : Type} {kk : Unit → Prog (TpuEff nD τ sig (Elt F) Λ₀ .tc) β} {Q : β → sProp 𝕄} :
    L.inv 0 () ⊢ iprop((∀ acc, L.inv l.trips acc -∗ wp frame (wpE (defs₀ (F := F)) 𝒱₀ (c : Thread nD τ) none) Set.univ (kk acc) Q)
      -∗ wp frame (wpE (defs₀ (F := F)) 𝒱₀ (c : Thread nD τ) none) Set.univ (Scf.Loop.for l hok () body >>= kk) Q) :=
  exec_loop _ _ _ _ _ _ _ _ _ L

/-- Before the first trip nothing is filled: the scratch buffer may hold anything. -/
theorem fill_start (c : Dev nD) {sp sp' : Space} (S : Memref sig .tc sp S320x512 .bf16) (D : Memref sig .tc sp' S4x1280x2x128 .bf16)
    (x : Vec F S320x512 .bf16) : iprop(owns (c : Thread nD τ) S fullShare x ∗ ∃ d, owns (c : Thread nD τ) D fullShare d) ⊢ FillInv (F := F) c S D x 0 := by
  unfold FillInv
  iintro ⟨HS, ⟨%d, HD⟩⟩
  isplitl [HS]; · iexact HS
  iexists d
  isplitl [HD]; · iexact HD
  ipureintro
  exact filled_zero _ _

/-- After the eighty trips of its four loops the scratch buffer holds `W x`. -/
theorem fill_done (c : Dev nD) {sp sp' : Space} (S : Memref sig .tc sp S320x512 .bf16) (D : Memref sig .tc sp' S4x1280x2x128 .bf16)
    (x : Vec F S320x512 .bf16) : FillInv (F := F) c S D x 80 ⊢ iprop(owns (c : Thread nD τ) S fullShare x ∗ owns (c : Thread nD τ) D fullShare (W x)) := by
  unfold FillInv
  iintro ⟨HS, ⟨%d, HD, %hd⟩⟩
  rw [← filled_all hd]
  isplitl [HS]; · iexact HS
  iexact HD

/-- One of the eight loops: twenty more of the eighty trips that fill a scratch buffer. -/
theorem fill_loop (c : Dev nD) {sp sp' : Space} (S : Memref sig .tc sp S320x512 .bf16) (D : Memref sig .tc sp' S4x1280x2x128 .bf16)
    (x : Vec F S320x512 .bf16) (n : ℕ) (l : Scf.Loop 32) (hok : l.OK) (body : Fin l.trips → Unit → Prog (TpuEff nD τ sig (Elt F) Λ₀ .tc) Unit)
    (L : LoopInv (M := 𝕄) frame (wpE (defs₀ (F := F)) 𝒱₀ (c : Thread nD τ) none) Set.univ l.lb l.ub l.st hok () body)
    (h0 : L.inv 0 () = FillInv (F := F) c S D x n) (h1 : ∀ acc, L.inv l.trips acc = FillInv (F := F) c S D x (n + 20))
    {β : Type} {kk : Unit → Prog (TpuEff nD τ sig (Elt F) Λ₀ .tc) β} {Q : β → sProp 𝕄} :
    FillInv (F := F) c S D x n ⊢ iprop((FillInv (F := F) c S D x (n + 20) -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for l hok () body >>= kk) Q) := by
  rw [← h0, ← h1 ()]
  refine (loop_step c l hok body L (kk := kk) (Q := Q)).trans ?_
  iintro H HK
  iapply H
  iintro %acc
  iexact HK

/-- Plane `p` of a scratch buffer, as the body loads it. -/
abbrev plane0 (v : Vec F S4x1280x2x128 .bf16) : Vec F S1x1280x2x128 .bf16 := View.ld v (Rect.unit (s := S4x1280x2x128) ![0, 0, 0, 0] S1x1280x2x128.size inb_S4x1280x2x128_S1x1280x2x128_0_0_0_0)
/-- Plane 1 of a scratch buffer. -/
abbrev plane1 (v : Vec F S4x1280x2x128 .bf16) : Vec F S1x1280x2x128 .bf16 := View.ld v (Rect.unit (s := S4x1280x2x128) ![1, 0, 0, 0] S1x1280x2x128.size inb_S4x1280x2x128_S1x1280x2x128_1_0_0_0)
/-- Plane 2 of a scratch buffer. -/
abbrev plane2 (v : Vec F S4x1280x2x128 .bf16) : Vec F S1x1280x2x128 .bf16 := View.ld v (Rect.unit (s := S4x1280x2x128) ![2, 0, 0, 0] S1x1280x2x128.size inb_S4x1280x2x128_S1x1280x2x128_2_0_0_0)
/-- Plane 3 of a scratch buffer. -/
abbrev plane3 (v : Vec F S4x1280x2x128 .bf16) : Vec F S1x1280x2x128 .bf16 := View.ld v (Rect.unit (s := S4x1280x2x128) ![3, 0, 0, 0] S1x1280x2x128.size inb_S4x1280x2x128_S1x1280x2x128_3_0_0_0)

/-- The replicated scales, read back from the first scratch buffer. -/
def scaleOf (v : Vec F S4x1280x2x128 .bf16) : FVec F S2560x512 .bf16 :=
  k0_pay125 (k0_pay123 (plane0 v)) (k0_pay124 (plane0 v)) (plane1 v) (plane2 v) (plane3 v)

/-- The replicated minima, read back from the second scratch buffer. -/
def minOf (v : Vec F S4x1280x2x128 .bf16) : FVec F S2560x512 .bf16 :=
  k0_pay129 (k0_pay126 (plane0 v)) (k0_pay127 (plane1 v)) (k0_pay128 (plane2 v)) (plane3 v)

/-- The packed codes, as words of four rows each. -/
def wordsOf (x3 : Vec F S1280x512 .i8) : IVec S320x512 32 :=
  k0_pay122 (View.ld x3 (Rect.unit (s := S1280x512) ![0, 0] S1280x512.size inb_S1280x512_S1280x512_0_0))

/-- The product with the even features. -/
def evenOf (x1 : Vec F S48x2560 .bf16) (v9 : IVec S320x512 32) (s m : FVec F S2560x512 .bf16) : FVec F S48x512 .f32 :=
  k0_pay140 s m (k0_pay131 v9) (k0_pay132 v9) (k0_pay133 v9) (k0_pay134 v9) (k0_pay135 v9) (k0_pay136 v9) (k0_pay137 v9) (k0_pay138 v9) k0_pay139
    (View.ld x1 (Rect.unit (s := S48x2560) ![0, 0] S48x2560.size inb_S48x2560_S48x2560_0_0))

/-- The result's block: the product with the odd features added to the other, and rounded. -/
def blockOf (x1 x2 : Vec F S48x2560 .bf16) (v9 : IVec S320x512 32) (s m : FVec F S2560x512 .bf16) : FVec F S48x512 .bf16 :=
  k0_pay1 s m (evenOf x1 v9 s m) (k0_pay141 v9) (k0_pay142 v9) (k0_pay143 v9) (k0_pay144 v9) (k0_pay145 v9) (k0_pay146 v9) (k0_pay147 v9) 15#32
    (View.ld x2 (Rect.unit (s := S48x2560) ![0, 0] S48x2560.size inb_S48x2560_S48x2560_0_0))

/-- What the body leaves in the result's staging buffer, from the blocks of its five operands. -/
def out0 (x1 x2 : Vec F S48x2560 .bf16) (x3 : Vec F S1280x512 .i8) (x4 x5 : Vec F S320x512 .bf16) : Vec F S48x512 .bf16 :=
  blockOf x1 x2 (wordsOf x3) (scaleOf (W x4)) (minOf (W x5))

/-- One store over the whole of a buffer leaves its payload. -/
theorem read_whole {κ : Kind} {sp : Space} (v : View sig κ sp S48x512 .bf16) (f : v.ty.Contents (Elt F)) (p : Vec F S48x512 .bf16) :
    v.read (Elt F) (v.writes (Elt F) f [(⟨Rect.unit ![0, 0] S48x512.size inb_S48x512_S48x512_0_0, p⟩ : View.Piece (Elt F) S48x512 .bf16)]) = p :=
  (View.read_writes_eq_canon _ _ _ (fun y => View.cover_of_tiled [⟨Rect.unit ![0, 0] S48x512.size inb_S48x512_S48x512_0_0, p⟩] S48x512.size (by rfl) y)).trans
    (View.canon_unit_zero (by decide) _ _)

/-- The kernel's body on whole staging and scratch memrefs: it keeps its operands' blocks and leaves `out0` of them. -/
theorem sound_kernel (c : Dev nD) (i : grid0.Coords) (arg1 : Memref sig .tc .vmem S48x2560 .bf16) (harg1 : arg1.IsWhole) (arg2 : Memref sig .tc .vmem S48x2560 .bf16) (harg2 : arg2.IsWhole) (arg3 : Memref sig .tc .vmem S1280x512 .i8) (harg3 : arg3.IsWhole) (arg4 : Memref sig .tc .vmem S320x512 .bf16) (harg4 : arg4.IsWhole) (arg5 : Memref sig .tc .vmem S320x512 .bf16) (harg5 : arg5.IsWhole) (arg6 : Memref sig .tc .vmem S48x512 .bf16) (harg6 : arg6.IsWhole) (arg7 : Memref sig .tc .vmem S4x1280x2x128 .bf16) (harg7 : arg7.IsWhole) (arg8 : Memref sig .tc .vmem S4x1280x2x128 .bf16) (harg8 : arg8.IsWhole)
    (x1 x2 : Vec F S48x2560 .bf16) (x3 : Vec F S1280x512 .i8) (x4 x5 : Vec F S320x512 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare (out0 x1 x2 x3 x4 x5)
        ∗ (∃ d, owns (c : Thread nD τ) arg7 fullShare d) ∗ (∃ d, owns (c : Thread nD τ) arg8 fullShare d)) -∗ K ⟨⟩))
      ⊢ wp frame (wpE (defs₀ (F := F)) 𝒱₀ (c : Thread nD τ) none) Set.univ (cc0_w2_linear i arg1 harg1 arg2 harg2 arg3 harg3 arg4 harg4 arg5 harg5 arg6 harg6 arg7 harg7 arg8 harg8) K := by
  simp only [cc0_w2_linear_eq_skeleton]; unfold cc0_w2_linear_skel
  simp only [k0_part17_eq_skeleton]; unfold k0_part17_skel
  iintro ⟨H1, H2, H3, H4, H5, H6, H7, H8, Hk⟩
  ihave HA : FillInv c arg4 arg7 x4 0 $$ [H4 H7]
  · iapply (fill_start c arg4 arg7 x4)
    isplitl [H4]; · iexact H4
    iexact H7
  ihave HB : FillInv c arg5 arg8 x5 0 $$ [H5 H8]
  · iapply (fill_start c arg5 arg8 x5)
    isplitl [H5]; · iexact H5
    iexact H8
  simp (config := { proj := false }) only [bind_assoc]
  iapply (fill_loop c arg4 arg7 x4 0 k0_t1_loop k0_t1_ok _ (loopInv_k0_t1 c i arg1 harg1 arg2 harg2 arg3 harg3 arg4 harg4 arg5 harg5 arg6 harg6 arg7 harg7 arg8 harg8 x4) rfl (fun _ => congrArg (fun j => FillInv (F := F) c arg4 arg7 x4 (0 + j)) (by decide +kernel : k0_t1_loop.trips = 20))) $$ HA
  iintro HA
  iapply (fill_loop c arg4 arg7 x4 20 k0_t2_loop k0_t2_ok _ (loopInv_k0_t2 c i arg1 harg1 arg2 harg2 arg3 harg3 arg4 harg4 arg5 harg5 arg6 harg6 arg7 harg7 arg8 harg8 x4) rfl (fun _ => congrArg (fun j => FillInv (F := F) c arg4 arg7 x4 (20 + j)) (by decide +kernel : k0_t2_loop.trips = 20))) $$ HA
  iintro HA
  iapply (fill_loop c arg4 arg7 x4 40 k0_t3_loop k0_t3_ok _ (loopInv_k0_t3 c i arg1 harg1 arg2 harg2 arg3 harg3 arg4 harg4 arg5 harg5 arg6 harg6 arg7 harg7 arg8 harg8 x4) rfl (fun _ => congrArg (fun j => FillInv (F := F) c arg4 arg7 x4 (40 + j)) (by decide +kernel : k0_t3_loop.trips = 20))) $$ HA
  iintro HA
  iapply (fill_loop c arg4 arg7 x4 60 k0_t4_loop k0_t4_ok _ (loopInv_k0_t4 c i arg1 harg1 arg2 harg2 arg3 harg3 arg4 harg4 arg5 harg5 arg6 harg6 arg7 harg7 arg8 harg8 x4) rfl (fun _ => congrArg (fun j => FillInv (F := F) c arg4 arg7 x4 (60 + j)) (by decide +kernel : k0_t4_loop.trips = 20))) $$ HA
  iintro HA
  iapply (fill_loop c arg5 arg8 x5 0 k0_t5_loop k0_t5_ok _ (loopInv_k0_t5 c i arg1 harg1 arg2 harg2 arg3 harg3 arg4 harg4 arg5 harg5 arg6 harg6 arg7 harg7 arg8 harg8 x5) rfl (fun _ => congrArg (fun j => FillInv (F := F) c arg5 arg8 x5 (0 + j)) (by decide +kernel : k0_t5_loop.trips = 20))) $$ HB
  iintro HB
  iapply (fill_loop c arg5 arg8 x5 20 k0_t6_loop k0_t6_ok _ (loopInv_k0_t6 c i arg1 harg1 arg2 harg2 arg3 harg3 arg4 harg4 arg5 harg5 arg6 harg6 arg7 harg7 arg8 harg8 x5) rfl (fun _ => congrArg (fun j => FillInv (F := F) c arg5 arg8 x5 (20 + j)) (by decide +kernel : k0_t6_loop.trips = 20))) $$ HB
  iintro HB
  iapply (fill_loop c arg5 arg8 x5 40 k0_t7_loop k0_t7_ok _ (loopInv_k0_t7 c i arg1 harg1 arg2 harg2 arg3 harg3 arg4 harg4 arg5 harg5 arg6 harg6 arg7 harg7 arg8 harg8 x5) rfl (fun _ => congrArg (fun j => FillInv (F := F) c arg5 arg8 x5 (40 + j)) (by decide +kernel : k0_t7_loop.trips = 20))) $$ HB
  iintro HB
  iapply (fill_loop c arg5 arg8 x5 60 k0_t8_loop k0_t8_ok _ (loopInv_k0_t8 c i arg1 harg1 arg2 harg2 arg3 harg3 arg4 harg4 arg5 harg5 arg6 harg6 arg7 harg7 arg8 harg8 x5) rfl (fun _ => congrArg (fun j => FillInv (F := F) c arg5 arg8 x5 (60 + j)) (by decide +kernel : k0_t8_loop.trips = 20))) $$ HB
  iintro HB
  ihave HA := (fill_done c arg4 arg7 x4) $$ HA
  ihave HB := (fill_done c arg5 arg8 x5) $$ HB
  unfold owns
  icases H1 with ⟨%f1, %hf1, H1⟩
  icases H2 with ⟨%f2, %hf2, H2⟩
  icases H3 with ⟨%f3, %hf3, H3⟩
  icases H6 with ⟨%d6, %f6, -, H6⟩
  icases HA with ⟨⟨%f4, %hf4, H4⟩, ⟨%f7, %hf7, H7⟩⟩
  icases HB with ⟨⟨%f5, %hf5, H5⟩, ⟨%f8, %hf8, H8⟩⟩
  subst hf1 hf2 hf3
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; exact hf4
                  iexact H4
  isplitl [H5]; · iexists f5; isplitr; · ipureintro; exact hf5
                  iexact H5
  isplitl [H6]
  · iexists _; isplitr
    swap; · iexact H6
    ipureintro
    unfold out0
    rw [← hf7, ← hf8]
    exact read_whole arg6.view f6 _
  isplitl [H7]; · iexists _, f7; isplitr; · ipureintro; rfl
                  iexact H7
  iexists _, f8; isplitr; · ipureintro; rfl
  iexact H8

end Cert.Proof.KernelIdeal
-- ==== Proof.IdealRun.lean ====
module

public import proofs.«01_k».proof.Proof.IdealBody
public import proofs.«01_k».proof.Proof.Gen.KernelIdeal.Frame
public import Idealize.ShloMosaic.Lib.Claim

@[expose] public section

/-! # The run and the frame of the ideal kernel -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline: the arrays as the region finds them; after the body at point `t` each input's buffer
at its block and the result's at `out0` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0 (iblk m c 0 t) (iblk m c 1 t) (iblk m c 2 t) (iblk m c 3 t) (iblk m c 4 t)
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-- What the body leaves in the staging buffer of window 0. -/
theorem after0_0 (c : Dev nD) (t : Fin cfg0.N) : (dats m 0 c).after 0 t = iblk m c 0 t := by dsimp only [dats]
/-- What the body leaves in the staging buffer of window 1. -/
theorem after0_1 (c : Dev nD) (t : Fin cfg0.N) : (dats m 0 c).after 1 t = iblk m c 1 t := by dsimp only [dats]
/-- What the body leaves in the staging buffer of window 2. -/
theorem after0_2 (c : Dev nD) (t : Fin cfg0.N) : (dats m 0 c).after 2 t = iblk m c 2 t := by dsimp only [dats]
/-- What the body leaves in the staging buffer of window 3. -/
theorem after0_3 (c : Dev nD) (t : Fin cfg0.N) : (dats m 0 c).after 3 t = iblk m c 3 t := by dsimp only [dats]
/-- What the body leaves in the staging buffer of window 4. -/
theorem after0_4 (c : Dev nD) (t : Fin cfg0.N) : (dats m 0 c).after 4 t = iblk m c 4 t := by dsimp only [dats]
/-- What the body leaves in the staging buffer of window 5. -/
theorem after0_5 (c : Dev nD) (t : Fin cfg0.N) : (dats m 0 c).after 5 t = out0 (iblk m c 0 t) (iblk m c 1 t) (iblk m c 2 t) (iblk m c 3 t) (iblk m c 4 t) := by dsimp only [dats]

/-- What the body finds in the staging buffer of window 0: that point's block. -/
theorem before0_0 (c : Dev nD) (t : Fin cfg0.N) (d) : (dats m 0 c).before 0 t d = iblk m c 0 t :=
  before0_0_of m (dats m 0 c) (A_eq m c 0) (after0_0 m c) t d
/-- What the body finds in the staging buffer of window 1: that point's block. -/
theorem before0_1 (c : Dev nD) (t : Fin cfg0.N) (d) : (dats m 0 c).before 1 t d = iblk m c 1 t :=
  before0_1_of m (dats m 0 c) (A_eq m c 1) (after0_1 m c) t d
/-- What the body finds in the staging buffer of window 2: that point's block. -/
theorem before0_2 (c : Dev nD) (t : Fin cfg0.N) (d) : (dats m 0 c).before 2 t d = iblk m c 2 t :=
  before0_2_of m (dats m 0 c) (A_eq m c 2) (after0_2 m c) t d
/-- What the body finds in the staging buffer of window 3: that point's block. -/
theorem before0_3 (c : Dev nD) (t : Fin cfg0.N) (d) : (dats m 0 c).before 3 t d = iblk m c 3 t :=
  before0_3_of m (dats m 0 c) (A_eq m c 3) (after0_3 m c) t d
/-- What the body finds in the staging buffer of window 4: that point's block. -/
theorem before0_4 (c : Dev nD) (t : Fin cfg0.N) (d) : (dats m 0 c).before 4 t d = iblk m c 4 t :=
  before0_4_of m (dats m 0 c) (A_eq m c 4) (after0_4 m c) t d

/-- A whole buffer's ownership as its memref's. -/
theorem whole_owns (c : Dev nD) (b : Ref sig .tc) (f : Buf (Elt F) ((c : Thread nD τ).loc b)) :
    ((((c : Thread nD τ).loc b) ↦{fullShare} f : sProp 𝕄)) ⊢ iprop(∃ d, owns (c : Thread nD τ) (Memref.whole b) fullShare d) := by
  iintro H
  iexists ((Memref.whole b).view.read (Elt F) f)
  unfold owns
  iexists f
  isplitr
  · ipureintro; rfl
  rw [(Memref.isWhole_whole b).set_eq_univ]
  iexact H

/-- And back. -/
theorem owns_whole (c : Dev nD) (b : Ref sig .tc) :
    (iprop(∃ d, owns (c : Thread nD τ) (Memref.whole b) fullShare d) : sProp 𝕄) ⊢ iprop(∃ f : Buf (Elt F) ((c : Thread nD τ).loc b), ((c : Thread nD τ).loc b) ↦{fullShare} f) := by
  iintro ⟨%d, H⟩
  unfold owns
  icases H with ⟨%f, -, H⟩
  rw [(Memref.isWhole_whole b).set_eq_univ]
  iexists f
  iexact H

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, from `sound_kernel` at its buffers and blocks. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5,
    show (dats m 0 c).Φ t.castSucc = Pipeline.ΦA spec0 c from rfl]
  unfold Pipeline.ΦA
  rw [scopedRest0_eq]
  iintro ⟨⟨⟨⟨%g7, H7⟩, ⟨%g8, H8⟩⟩, Hp⟩, Ho, ⟨%d0, H0⟩, ⟨%d1, H1⟩, ⟨%d2, H2⟩, ⟨%d3, H3⟩, ⟨%d4, H4⟩, ⟨%d5, H5⟩⟩
  ihave H7 := (whole_owns c cc0_scratch0 g7) $$ H7
  ihave H8 := (whole_owns c cc0_scratch1 g8) $$ H8
  iapply (sound_kernel c _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H7]; · iexact H7
  isplitl [H8]; · iexact H8
  iintro ⟨H0, H1, H2, H3, H4, H5, H7, H8⟩
  ihave H7 := (owns_whole c cc0_scratch0) $$ H7
  ihave H8 := (owns_whole c cc0_scratch1) $$ H8
  isplitl [H7 H8 Hp]
  · isplitl [H7 H8]
    · isplitl [H7]; · iexact H7
      iexact H8
    iexact Hp
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The launch: every array of the pipeline ends at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.BlockParts.lean ====
module

public import proofs.«01_k».proof.Proof.IdealBody
public import Idealize.ShloMosaic.Lib.BitcastFour
public import Idealize.ShloMosaic.PureOps.Ideal.Laws

@[expose] public section

/-! # One block, its parts: the replicated rows and the two-bit codes, element by element -/

set_option maxRecDepth 16384
noncomputable section
namespace Cert.Proof.KernelIdeal

open Cert.KernelIdeal Cert.KernelIdeal.Gen
open Idealize.ShloMosaic Idealize.ShloMosaic.TcCoe Idealize.ShloMosaic.Tactic
open Idealize.SL Idealize.SL.Sem

/-- Eight matrices of nibbles stacked between the rows, as the body stacks them. -/
def stack (a : Fin 8 → IVec S320x512 32) : IVec S2560x512 32 :=
  shapeCast S2560x512 (concatenate S320x8x512 1 [⟨S320x1x512, shapeCast S320x1x512 (a 0) shapeCasts_S320x512_S320x1x512⟩, ⟨S320x1x512, shapeCast S320x1x512 (a 1) shapeCasts_S320x512_S320x1x512⟩, ⟨S320x1x512, shapeCast S320x1x512 (a 2) shapeCasts_S320x512_S320x1x512⟩, ⟨S320x1x512, shapeCast S320x1x512 (a 3) shapeCasts_S320x512_S320x1x512⟩, ⟨S320x1x512, shapeCast S320x1x512 (a 4) shapeCasts_S320x512_S320x1x512⟩, ⟨S320x1x512, shapeCast S320x1x512 (a 5) shapeCasts_S320x512_S320x1x512⟩, ⟨S320x1x512, shapeCast S320x1x512 (a 6) shapeCasts_S320x512_S320x1x512⟩, ⟨S320x1x512, shapeCast S320x1x512 (a 7) shapeCasts_S320x512_S320x1x512⟩] concatenates_S320x1x512_S320x1x512_S320x1x512_S320x1x512_S320x1x512_S320x1x512_S320x1x512_S320x1x512_S320x8x512_d1) shapeCasts_S320x8x512_S2560x512

/-- Row `r` of the stack is row `r / 8` of the matrix number `r % 8`. -/
theorem stack_apply (a : Fin 8 → IVec S320x512 32) (r : Fin 2560) (n : Fin 512) :
    stack a (ix2 r n) = a ⟨r.val % 8, by omega⟩ (ix2 ⟨r.val / 8, by omega⟩ n) := by
  pointwise [stack]
  split_ifs <;> refine congrFun (congrArg a (Fin.ext ?_)) _ <;> simp only [Fin.val_ofNat] <;> omega

/-- A plane of a filled buffer: either half of word row `a`, lane `l`, of plane `p` is element `(a / 4, 128 p + l)`. -/
theorem plane_apply (x : Vec Ideal S320x512 .bf16) (p : Fin 4) (h : ∀ a, (![p.val, 0, 0, 0] : Fin 4 → ℕ) a + S1x1280x2x128.size a ≤ S4x1280x2x128.size a) (a : Fin 1280) (b : Fin 2) (l : Fin 128)
    (r : Fin 320) (n : Fin 512) (hr : r.val = a.val / 4) (hn : n.val = 128 * p.val + l.val) :
    View.ld (W x) (Rect.unit (s := S4x1280x2x128) ![p.val, 0, 0, 0] S1x1280x2x128.size h) (ix4 0 a b l) = x (ix2 r n) := by
  show x (ix2 _ _) = x (ix2 r n)
  refine congrArg x (congrArg₂ ix2 (Fin.ext ?_) (Fin.ext ?_))
  · show (0 + 1 * a.val) / 4 = r.val
    omega
  · show 128 * (p.val + 1 * 0) + (0 + 1 * l.val) = n.val
    omega

/-- Plane 0 of a filled buffer, element by element. -/
theorem plane0_apply (x : Vec Ideal S320x512 .bf16) (a : Fin 1280) (b : Fin 2) (l : Fin 128) (r : Fin 320) (n : Fin 512)
    (hr : r.val = a.val / 4) (hn : n.val = 0 + l.val) : plane0 (W x) (ix4 0 a b l) = x (ix2 r n) :=
  plane_apply x 0 inb_S4x1280x2x128_S1x1280x2x128_0_0_0_0 a b l r n hr hn

/-- Plane 1 of a filled buffer, element by element. -/
theorem plane1_apply (x : Vec Ideal S320x512 .bf16) (a : Fin 1280) (b : Fin 2) (l : Fin 128) (r : Fin 320) (n : Fin 512)
    (hr : r.val = a.val / 4) (hn : n.val = 128 + l.val) : plane1 (W x) (ix4 0 a b l) = x (ix2 r n) :=
  plane_apply x 1 inb_S4x1280x2x128_S1x1280x2x128_1_0_0_0 a b l r n hr hn

/-- Plane 2 of a filled buffer, element by element. -/
theorem plane2_apply (x : Vec Ideal S320x512 .bf16) (a : Fin 1280) (b : Fin 2) (l : Fin 128) (r : Fin 320) (n : Fin 512)
    (hr : r.val = a.val / 4) (hn : n.val = 256 + l.val) : plane2 (W x) (ix4 0 a b l) = x (ix2 r n) :=
  plane_apply x 2 inb_S4x1280x2x128_S1x1280x2x128_2_0_0_0 a b l r n hr hn

/-- Plane 3 of a filled buffer, element by element. -/
theorem plane3_apply (x : Vec Ideal S320x512 .bf16) (a : Fin 1280) (b : Fin 2) (l : Fin 128) (r : Fin 320) (n : Fin 512)
    (hr : r.val = a.val / 4) (hn : n.val = 384 + l.val) : plane3 (W x) (ix4 0 a b l) = x (ix2 r n) :=
  plane_apply x 3 inb_S4x1280x2x128_S1x1280x2x128_3_0_0_0 a b l r n hr hn

/-- The scale rows read back: row `r` of the even (or odd) features takes row `r / 8` of the block of scales. -/
theorem scaleOf_apply (x : Vec Ideal S320x512 .bf16) (r : Fin 2560) (n : Fin 512) :
    scaleOf (F := Ideal) (W x) (ix2 r n) = x (ix2 ⟨r.val / 8, by omega⟩ n) := by
  unfold scaleOf
  pointwise [k0_pay125, k0_pay123, k0_pay124]
  split
  · split <;> exact plane0_apply x _ _ _ _ _ (by show r.val / 8 = r.val / 2 / 4; omega) (by show n.val = 0 + (n.val); omega)
  · split
    · split <;> exact plane1_apply x _ _ _ _ _ (by show r.val / 8 = r.val / 2 / 4; omega) (by show n.val = 128 + (n.val - 128); omega)
    · split
      · split <;> exact plane2_apply x _ _ _ _ _ (by show r.val / 8 = r.val / 2 / 4; omega) (by show n.val = 256 + (n.val - 128 - 128); omega)
      · split <;> exact plane3_apply x _ _ _ _ _ (by show r.val / 8 = r.val / 2 / 4; omega) (by show n.val = 384 + (n.val - 128 - 128 - 128); omega)

/-- The minimum rows read back: row `r` of the even (or odd) features takes row `r / 8` of the block of minima. -/
theorem minOf_apply (x : Vec Ideal S320x512 .bf16) (r : Fin 2560) (n : Fin 512) :
    minOf (F := Ideal) (W x) (ix2 r n) = x (ix2 ⟨r.val / 8, by omega⟩ n) := by
  unfold minOf
  pointwise [k0_pay129, k0_pay126, k0_pay127, k0_pay128]
  split
  · split <;> exact plane0_apply x _ _ _ _ _ (by show r.val / 8 = r.val / 2 / 4; omega) (by show n.val = 0 + (n.val); omega)
  · split
    · split <;> exact plane1_apply x _ _ _ _ _ (by show r.val / 8 = r.val / 2 / 4; omega) (by show n.val = 128 + (n.val - 128); omega)
    · split
      · split <;> exact plane2_apply x _ _ _ _ _ (by show r.val / 8 = r.val / 2 / 4; omega) (by show n.val = 256 + (n.val - 128 - 128); omega)
      · split <;> exact plane3_apply x _ _ _ _ _ (by show r.val / 8 = r.val / 2 / 4; omega) (by show n.val = 384 + (n.val - 128 - 128 - 128); omega)

/-- One nibble of a word, masked to its low two bits: the two-bit field of the byte it lies in. -/
theorem nibble_eq (x : Fin 1280 → BitVec 8) (w : BitVec 32) (i : Fin 320)
    (hw : ∀ q, q < 32 → ∀ p : Fin 1280, p.val = 4 * i.val + q / 8 → w.getLsbD q = (x p).getLsbD (q % 8))
    (sh : ℕ) (hsh : sh = 0 ∨ sh = 1) (k : ℕ) (hk : k < 8) (p : Fin 1280) (hp : p.val = 4 * i.val + k / 2) :
    ((w >>> (2 * sh)) &&& 858993459#32) >>> (4 * k) &&& 15#32 = ((x p).setWidth 32 >>> (2 * (2 * (k % 2) + sh))) &&& 3#32 := by
  apply BitVec.eq_of_getLsbD_eq
  intro q hq
  simp only [BitVec.getLsbD_and, BitVec.getLsbD_ushiftRight, BitVec.getLsbD_setWidth]
  by_cases h2 : q < 2
  · have e := hw (2 * sh + (4 * k + q)) (by omega) p (by omega)
    rw [e]
    have e2 : (2 * sh + (4 * k + q)) % 8 = 2 * (2 * (k % 2) + sh) + q := by omega
    rw [e2]
    have : 2 * (2 * (k % 2) + sh) + q < 32 := by omega
    have hm : (858993459#32).getLsbD (4 * k + q) = true := by
      interval_cases k <;> interval_cases q <;> rfl
    have h15 : (15#32).getLsbD q = true := by interval_cases q <;> rfl
    have h3 : (3#32).getLsbD q = true := by interval_cases q <;> rfl
    simp [hm, h15, h3, this]
  · have h3 : (3#32).getLsbD q = false := by
      interval_cases q <;> first | rfl | omega
    rw [h3, Bool.and_false]
    by_cases h4 : q < 4
    · have hm : (858993459#32).getLsbD (4 * k + q) = false := by
        interval_cases k <;> interval_cases q <;> first | rfl | omega
      rw [hm, Bool.and_false, Bool.false_and]
    · have h15 : (15#32).getLsbD q = false := by
        interval_cases q <;> first | rfl | omega
      rw [h15, Bool.and_false]

/-- The two-bit field number `j` of a packed byte. -/
def code (b : BitVec 8) (j : ℕ) : BitVec 32 := (b.setWidth 32 >>> (2 * j)) &&& 3#32

/-- A field is below four. -/
theorem code_lt (b : BitVec 8) (j : ℕ) : (code b j).toNat < 4 := by
  unfold code
  rw [BitVec.toNat_and]
  exact lt_of_le_of_lt Nat.and_le_right (by decide)

/-- The weight a byte's field stands for: the field times its group's scale, plus its group's minimum. -/
def weight (b : BitVec 8) (j : ℕ) (s m : EReal) : EReal := (((code b j).toNat : ℝ) : EReal) * s + m

/-- A field read as a signed word is the field. -/
theorem sitofp_code (b : BitVec 8) (j : ℕ) : FloatOps.sitofp (F := Ideal) .bf16 (code b j) = (((code b j).toNat : ℝ) : EReal) := by
  have h := code_lt b j
  have e : (code b j).toInt = ((code b j).toNat : ℤ) := by
    rw [BitVec.toInt_eq_toNat_cond, if_pos (by omega)]
  show (((code b j).toInt : ℝ) : EReal) = _
  rw [e]
  norm_cast

/-- The nibbles number `k` of the words shifted by `d` and masked with `0x33333333`, for each `k`. -/
def nibbles (d : BitVec 32) (v9 : IVec S320x512 32) (k : Fin 8) : IVec S320x512 32 :=
  andi (shrui (andi (shrui v9 (broadcast S320x512 d)) (broadcast S320x512 858993459#32)) (broadcast S320x512 (BitVec.ofNat 32 (4 * k.val)))) (broadcast S320x512 15#32)

/-- The codes of the even features (`sh = 0`) and of the odd ones (`sh = 1`), one row for each feature. -/
theorem nibbles_apply (x3 : Vec Ideal S1280x512 .i8) (sh : ℕ) (hsh : sh = 0 ∨ sh = 1) (r : Fin 2560) (n : Fin 512) :
    stack (nibbles (BitVec.ofNat 32 (2 * sh)) (wordsOf (F := Ideal) x3)) (ix2 r n)
      = code (x3 (ix2 ⟨r.val / 2, by omega⟩ n)) (2 * (r.val % 2) + sh) := by
  rw [stack_apply]
  have hz : (![0, 0] : Fin S1280x512.rank → Nat) = fun _ => 0 := funext fun a => by fin_cases a <;> rfl
  have hw : ∀ q, q < 32 → ∀ p : Fin 1280, p.val = 4 * (r.val / 8) + q / 8 →
      (wordsOf (F := Ideal) x3 (ix2 ⟨r.val / 8, by omega⟩ n)).getLsbD q = (x3 (ix2 p n)).getLsbD (q % 8) := by
    intro q hq p hp
    unfold wordsOf k0_pay122
    rw [View.ld_unit_zero hz]
    exact bitcast_8_32_getLsbD_ix2 x3 _ ⟨r.val / 8, by omega⟩ n q hq p hp
  have key := nibble_eq (fun p => x3 (ix2 p n)) (wordsOf (F := Ideal) x3 (ix2 ⟨r.val / 8, by omega⟩ n)) ⟨r.val / 8, by omega⟩ hw sh hsh (r.val % 8) (by omega) ⟨r.val / 2, by omega⟩
    (by show r.val / 2 = 4 * (r.val / 8) + r.val % 8 / 2; omega)
  have e2 : r.val % 8 % 2 = r.val % 2 := by omega
  rw [e2] at key
  refine Eq.trans ?_ key
  have hs : ∀ (w : BitVec 32) (k : ℕ), k < 32 → IntOp.shrui .vector w (BitVec.ofNat 32 k) = w >>> k := by
    intro w k hk
    unfold IntOp.shrui
    have : (BitVec.ofNat 32 k).toNat = k := by simp; omega
    simp only [this, if_pos hk, BitVec.ushiftRight_eq']
  show IntOp.andi (IntOp.shrui .vector (IntOp.andi (IntOp.shrui .vector (wordsOf (F := Ideal) x3 (ix2 ⟨r.val / 8, by omega⟩ n)) (BitVec.ofNat 32 (2 * sh))) 858993459#32) (BitVec.ofNat 32 (4 * (r.val % 8)))) 15#32 = _
  rw [hs _ _ (by omega), hs _ _ (by omega)]
  rfl

/-- A block's product with the even features' weights. -/
theorem evenOf_apply (x1 : Vec Ideal S48x2560 .bf16) (v9 : IVec S320x512 32) (s m : FVec Ideal S2560x512 .bf16) (b : Fin 48) (n : Fin 512) :
    evenOf x1 v9 s m (ix2 b n) = ∑ r : Fin 2560, x1 (ix2 b r) * (FloatOps.sitofp (F := Ideal) .bf16 (stack (nibbles 0#32 v9) (ix2 r n)) * s (ix2 r n) + m (ix2 r n)) := by
  have e : evenOf x1 v9 s m = matmul dot_S48x2560_S2560x512_S48x512_1_0_0_1_n_n none (shapeCast S48x2560 (View.ld x1 (Rect.unit (s := S48x2560) ![0, 0] S48x2560.size inb_S48x2560_S48x2560_0_0)) shapeCasts_S48x2560_S48x2560)
      (addf (mulf (sitofp .bf16 (stack (nibbles 0#32 v9))) s) m) (constant S48x512 .f32 0x00000000#32) := rfl
  rw [e]
  pointwise

/-- A block's product with the odd features' weights, added to the other product. -/
theorem blockOf_apply (x1 x2 : Vec Ideal S48x2560 .bf16) (v9 : IVec S320x512 32) (s m : FVec Ideal S2560x512 .bf16) (b : Fin 48) (n : Fin 512) :
    blockOf x1 x2 v9 s m (ix2 b n) = evenOf x1 v9 s m (ix2 b n) + ∑ r : Fin 2560, x2 (ix2 b r) * (FloatOps.sitofp (F := Ideal) .bf16 (stack (nibbles 2#32 v9) (ix2 r n)) * s (ix2 r n) + m (ix2 r n)) := by
  have e : blockOf x1 x2 v9 s m = truncf .bf16 (addf (evenOf x1 v9 s m) (matmul dot_S48x2560_S2560x512_S48x512_1_0_0_1_n_n none (shapeCast S48x2560 (View.ld x2 (Rect.unit (s := S48x2560) ![0, 0] S48x2560.size inb_S48x2560_S48x2560_0_0)) shapeCasts_S48x2560_S48x2560)
      (addf (mulf (sitofp .bf16 (stack (nibbles 2#32 v9))) s) m) (constant S48x512 .f32 0x00000000#32))) bitsLt_bf16_f32 := rfl
  rw [e]
  pointwise

end Cert.Proof.KernelIdeal
-- ==== Proof.BlockValue.lean ====
module

public import proofs.«01_k».proof.Proof.BlockParts

@[expose] public section

/-! # One block's value: its rows of the activations against the weights that the packed bytes stand for -/

set_option maxRecDepth 16384
noncomputable section
namespace Cert.Proof.KernelIdeal

open Cert.KernelIdeal Cert.KernelIdeal.Gen
open Idealize.ShloMosaic Idealize.ShloMosaic.TcCoe Idealize.ShloMosaic.Tactic
open Idealize.SL Idealize.SL.Sem

/-- A sum over 2560 rows, the even rows and the odd rows apart. -/
theorem sum_even_odd (f : Fin 2560 → EReal) :
    ∑ r, f r = ∑ k : Fin 1280, f ⟨2 * k.val, by omega⟩ + ∑ k : Fin 1280, f ⟨2 * k.val + 1, by omega⟩ := by
  rw [← Equiv.sum_comp (finProdFinEquiv : Fin 1280 × Fin 2 ≃ Fin 2560) f, Fintype.sum_prod_type]
  simp only [Fin.sum_univ_two, Finset.sum_add_distrib]
  refine congrArg₂ (· + ·) (Finset.sum_congr rfl fun k _ => congrArg f (Fin.ext ?_)) (Finset.sum_congr rfl fun k _ => congrArg f (Fin.ext ?_))
  · show 0 + 2 * k.val = 2 * k.val
    omega
  · show 1 + 2 * k.val = 2 * k.val + 1
    omega

/-- One of the four sums of a result: the features `4 k + j` against the field `j` of the packed rows. -/
def part (x : Fin 1280 → EReal) (p : Fin 1280 → BitVec 8) (s m : Fin 320 → EReal) (j : ℕ) : EReal :=
  ∑ k : Fin 1280, x k * weight (p k) j (s ⟨k.val / 4, by omega⟩) (m ⟨k.val / 4, by omega⟩)

/-- What the body leaves at row `b` and column `n` of the block: the four sums of that row and column. -/
theorem out0_apply (x1 x2 : Vec Ideal S48x2560 .bf16) (x3 : Vec Ideal S1280x512 .i8) (x4 x5 : Vec Ideal S320x512 .bf16) (b : Fin 48) (n : Fin 512) :
    out0 x1 x2 x3 x4 x5 (ix2 b n)
      = part (fun k => x1 (ix2 b ⟨2 * k.val, by omega⟩)) (fun k => x3 (ix2 k n)) (fun g => x4 (ix2 g n)) (fun g => x5 (ix2 g n)) 0
        + part (fun k => x2 (ix2 b ⟨2 * k.val, by omega⟩)) (fun k => x3 (ix2 k n)) (fun g => x4 (ix2 g n)) (fun g => x5 (ix2 g n)) 1
        + part (fun k => x1 (ix2 b ⟨2 * k.val + 1, by omega⟩)) (fun k => x3 (ix2 k n)) (fun g => x4 (ix2 g n)) (fun g => x5 (ix2 g n)) 2
        + part (fun k => x2 (ix2 b ⟨2 * k.val + 1, by omega⟩)) (fun k => x3 (ix2 k n)) (fun g => x4 (ix2 g n)) (fun g => x5 (ix2 g n)) 3 := by
  have row (sh : ℕ) (hsh : sh = 0 ∨ sh = 1) (e : ℕ) (he : e < 2) (k : Fin 1280) :
      FloatOps.sitofp (F := Ideal) .bf16 (stack (nibbles (BitVec.ofNat 32 (2 * sh)) (wordsOf (F := Ideal) x3)) (ix2 ⟨2 * k.val + e, by omega⟩ n))
          * scaleOf (F := Ideal) (W x4) (ix2 ⟨2 * k.val + e, by omega⟩ n) + minOf (F := Ideal) (W x5) (ix2 ⟨2 * k.val + e, by omega⟩ n)
        = weight (x3 (ix2 k n)) (2 * e + sh) (x4 (ix2 ⟨k.val / 4, by omega⟩ n)) (x5 (ix2 ⟨k.val / 4, by omega⟩ n)) := by
    have h1 := nibbles_apply x3 sh hsh ⟨2 * k.val + e, by omega⟩ n
    have h2 := scaleOf_apply x4 ⟨2 * k.val + e, by omega⟩ n
    have h3 := minOf_apply x5 ⟨2 * k.val + e, by omega⟩ n
    have e1 : (⟨(2 * k.val + e) / 2, by omega⟩ : Fin 1280) = k := Fin.ext (by show (2 * k.val + e) / 2 = k.val; omega)
    have e2 : (2 * k.val + e) % 2 = e := by omega
    have e3 : (⟨(2 * k.val + e) / 8, by omega⟩ : Fin 320) = ⟨k.val / 4, by omega⟩ := Fin.ext (by show (2 * k.val + e) / 8 = k.val / 4; omega)
    simp only [e1, e2, e3] at h1 h2 h3
    rw [h1, h2, h3, sitofp_code]
    rfl
  have half (x : Vec Ideal S48x2560 .bf16) (sh : ℕ) (hsh : sh = 0 ∨ sh = 1) (e : ℕ) (he : e < 2) :
      ∑ k : Fin 1280, x (ix2 b ⟨2 * k.val + e, by omega⟩) * (FloatOps.sitofp (F := Ideal) .bf16 (stack (nibbles (BitVec.ofNat 32 (2 * sh)) (wordsOf (F := Ideal) x3)) (ix2 ⟨2 * k.val + e, by omega⟩ n))
          * scaleOf (F := Ideal) (W x4) (ix2 ⟨2 * k.val + e, by omega⟩ n) + minOf (F := Ideal) (W x5) (ix2 ⟨2 * k.val + e, by omega⟩ n))
        = part (fun k => x (ix2 b ⟨2 * k.val + e, by omega⟩)) (fun k => x3 (ix2 k n)) (fun g => x4 (ix2 g n)) (fun g => x5 (ix2 g n)) (2 * e + sh) :=
    Finset.sum_congr rfl fun k _ => congrArg (x (ix2 b ⟨2 * k.val + e, by omega⟩) * ·) (row sh hsh e he k)
  unfold out0
  rw [blockOf_apply, evenOf_apply, sum_even_odd, sum_even_odd]
  have a0 := half x1 0 (Or.inl rfl) 0 (by omega)
  have a1 := half x2 1 (Or.inr rfl) 0 (by omega)
  have a2 := half x1 0 (Or.inl rfl) 1 (by omega)
  have a3 := half x2 1 (Or.inr rfl) 1 (by omega)
  refine (congrArg₂ (· + ·) (congrArg₂ (· + ·) a0 a2) (congrArg₂ (· + ·) a1 a3)).trans ?_
  show (part _ _ _ _ 0 + part _ _ _ _ 2) + (part _ _ _ _ 1 + part _ _ _ _ 3) = _
  rw [add_add_add_comm, ← add_assoc]
  rfl

end Cert.Proof.KernelIdeal
-- ==== Proof.ArrayValue.lean ====
module

public import proofs.«01_k».proof.Proof.BlockValue
public import proofs.«01_k».proof.Proof.IdealRun

@[expose] public section

/-! # What the kernel's result array holds -/

set_option maxRecDepth 16384
noncomputable section
namespace Cert.Proof.KernelIdeal

open Cert.KernelIdeal Cert.KernelIdeal.Gen
open Idealize.ShloMosaic Idealize.ShloMosaic.TcCoe Idealize.ShloMosaic.Tactic
open Idealize.SL Idealize.SL.Sem
open Idealize.ShloMosaic.Pipeline (Dat)

/-- The matrix product, feature by feature: `x` of a row against the weights of a column, the features `4 k + j` of each `j` summed apart. -/
def product (X : FVec Ideal S48x1x5120 .bf16) (P : IVec S1280x17920 8) (S M : FVec Ideal S320x17920 .bf16) (b : Fin 48) (n : Fin 17920) : EReal :=
  part (fun k => X (ix3 b 0 ⟨4 * k.val, by omega⟩)) (fun k => P (ix2 k n)) (fun g => S (ix2 g n)) (fun g => M (ix2 g n)) 0
    + part (fun k => X (ix3 b 0 ⟨4 * k.val + 1, by omega⟩)) (fun k => P (ix2 k n)) (fun g => S (ix2 g n)) (fun g => M (ix2 g n)) 1
    + part (fun k => X (ix3 b 0 ⟨4 * k.val + 2, by omega⟩)) (fun k => P (ix2 k n)) (fun g => S (ix2 g n)) (fun g => M (ix2 g n)) 2
    + part (fun k => X (ix3 b 0 ⟨4 * k.val + 3, by omega⟩)) (fun k => P (ix2 k n)) (fun g => S (ix2 g n)) (fun g => M (ix2 g n)) 3

variable (m : (ℓ : Loc nD τ sig) → Buf (Elt Ideal) ℓ)

/-- Which block of its array each window takes at each grid point. -/
theorem idx : ∀ t : Fin cfg0.N, win0_0.index t = ![0, 0] ∧ win0_1.index t = ![0, 0] ∧ win0_2.index t = ![0, t.val] ∧ win0_3.index t = ![0, t.val]
    ∧ win0_4.index t = ![0, t.val] ∧ win0_5.index t = ![0, t.val] ∧ t.val < 35 :=
  (by decide +kernel : ∀ t : Fin grid0.N, _)

/-- The even features' block: every other feature of the activations, from the first. -/
theorem even_block (c : Dev nD) (t : Fin cfg0.N) (b : Fin 48) (r : Fin 2560) :
    (show FVec Ideal S48x2560 .bf16 from iblk m c 0 t) (ix2 b r) = (show FVec Ideal S48x1x5120 .bf16 from m ((c : Thread nD τ).loc main_arg0)) (ix3 b 0 ⟨2 * r.val, by omega⟩) := by
  blk_simp [iblk, idx t]
  entry_read
  pointwise
  blk_ext [idx t]

/-- The odd features' block: every other feature of the activations, from the second. -/
theorem odd_block (c : Dev nD) (t : Fin cfg0.N) (b : Fin 48) (r : Fin 2560) :
    (show FVec Ideal S48x2560 .bf16 from iblk m c 1 t) (ix2 b r) = (show FVec Ideal S48x1x5120 .bf16 from m ((c : Thread nD τ).loc main_arg0)) (ix3 b 0 ⟨2 * r.val + 1, by omega⟩) := by
  blk_simp [iblk, idx t]
  entry_read
  pointwise
  blk_ext [idx t]

/-- The packed rows' block: 512 columns of the packed weights. -/
theorem codes_block (c : Dev nD) (t : Fin cfg0.N) (k : Fin 1280) (n : Fin 512) (N : Fin 17920) (hN : N.val = t.val * 512 + n.val) :
    (show IVec S1280x512 8 from iblk m c 2 t) (ix2 k n) = (show IVec S1280x17920 8 from m ((c : Thread nD τ).loc main_arg1)) (ix2 k N) := by
  blk_ext [iblk, V, idx t]

/-- The scales' block: 512 columns of the scales. -/
theorem scales_block (c : Dev nD) (t : Fin cfg0.N) (g : Fin 320) (n : Fin 512) (N : Fin 17920) (hN : N.val = t.val * 512 + n.val) :
    (show FVec Ideal S320x512 .bf16 from iblk m c 3 t) (ix2 g n) = (show FVec Ideal S320x17920 .bf16 from m ((c : Thread nD τ).loc main_arg2)) (ix2 g N) := by
  blk_ext [iblk, V, idx t]

/-- The minima's block: 512 columns of the minima. -/
theorem minima_block (c : Dev nD) (t : Fin cfg0.N) (g : Fin 320) (n : Fin 512) (N : Fin 17920) (hN : N.val = t.val * 512 + n.val) :
    (show FVec Ideal S320x512 .bf16 from iblk m c 4 t) (ix2 g n) = (show FVec Ideal S320x17920 .bf16 from m ((c : Thread nD τ).loc main_arg3)) (ix2 g N) := by
  blk_ext [iblk, V, idx t]

/-- A block's value is the product's, at the columns of that block. -/
theorem point (c : Dev nD) (t : Fin cfg0.N) (b : Fin 48) (n : Fin 512) (N : Fin 17920) (hN : N.val = t.val * 512 + n.val) :
    out0 (F := Ideal) (iblk m c 0 t) (iblk m c 1 t) (iblk m c 2 t) (iblk m c 3 t) (iblk m c 4 t) (ix2 b n)
      = product (m ((c : Thread nD τ).loc main_arg0)) (m ((c : Thread nD τ).loc main_arg1)) (m ((c : Thread nD τ).loc main_arg2)) (m ((c : Thread nD τ).loc main_arg3)) b N := by
  rw [out0_apply]
  unfold product
  have hp : (fun k => (show IVec S1280x512 8 from iblk m c 2 t) (ix2 k n)) = _ := funext fun k => codes_block m c t k n N hN
  have hs : (fun g => (show FVec Ideal S320x512 .bf16 from iblk m c 3 t) (ix2 g n)) = _ := funext fun g => scales_block m c t g n N hN
  have hm : (fun g => (show FVec Ideal S320x512 .bf16 from iblk m c 4 t) (ix2 g n)) = _ := funext fun g => minima_block m c t g n N hN
  have feat (a a' : ℕ) (ha : a < 5120) (ha' : a' < 5120) (h : a = a') :
      (show FVec Ideal S48x1x5120 .bf16 from m ((c : Thread nD τ).loc main_arg0)) (ix3 b 0 ⟨a, ha⟩) = (show FVec Ideal S48x1x5120 .bf16 from m ((c : Thread nD τ).loc main_arg0)) (ix3 b 0 ⟨a', ha'⟩) := by
    subst h; rfl
  refine congrArg₂ (· + ·) (congrArg₂ (· + ·) (congrArg₂ (· + ·) ?_ ?_) ?_) ?_
  · refine congr (congr (congr (congr (congrArg part (funext fun k => (even_block m c t b _).trans (feat _ _ _ _ ?_))) hp) hs) hm) rfl
    show 2 * (2 * k.val) = 4 * k.val
    omega
  · refine congr (congr (congr (congr (congrArg part (funext fun k => (odd_block m c t b _).trans (feat _ _ _ _ ?_))) hp) hs) hm) rfl
    show 2 * (2 * k.val) + 1 = 4 * k.val + 1
    omega
  · refine congr (congr (congr (congr (congrArg part (funext fun k => (even_block m c t b _).trans (feat _ _ _ _ ?_))) hp) hs) hm) rfl
    show 2 * (2 * k.val + 1) = 4 * k.val + 2
    omega
  · refine congr (congr (congr (congr (congrArg part (funext fun k => (odd_block m c t b _).trans (feat _ _ _ _ ?_))) hp) hs) hm) rfl
    show 2 * (2 * k.val + 1) + 1 = 4 * k.val + 3
    omega

/-- The result array after the run: the product, at every row and column. -/
theorem final (c : Dev nD) : (dats m 0 c).arrAt 5 (cfgs 0).N
    = (fun i : S48x17920.Idx => product (m ((c : Thread nD τ).loc main_arg0)) (m ((c : Thread nD τ).loc main_arg1)) (m ((c : Thread nD τ).loc main_arg2)) (m ((c : Thread nD τ).loc main_arg3)) (i 0) (i 1)) := by
  refine (dats m 0 c).arrAt_eq_of_covers 5 _ (by decide +kernel) fun t _ y => ?_
  blk_simp
  rw [after0_5]
  have hN : (((win0_5.blk t).view.emb y) 1).val = t.val * 512 + (y 1).val := by
    blk_simp [idx t]
  have hB : ((win0_5.blk t).view.emb y) 0 = y 0 := by
    apply Fin.ext
    blk_simp [idx t]
  have hy : y = ix2 (y 0) (y 1) := (ix2_eta y).symm
  refine (congrArg (out0 (F := Ideal) (iblk m c 0 t) (iblk m c 1 t) (iblk m c 2 t) (iblk m c 3 t) (iblk m c 4 t)) hy).trans ?_
  refine (point m c t (y 0) (y 1) (((win0_5.blk t).view.emb y) 1) hN).trans ?_
  exact congrArg (fun b => product (m ((c : Thread nD τ).loc main_arg0)) (m ((c : Thread nD τ).loc main_arg1)) (m ((c : Thread nD τ).loc main_arg2)) (m ((c : Thread nD τ).loc main_arg3)) b (((win0_5.blk t).view.emb y) 1)) hB.symm

end Cert.Proof.KernelIdeal
-- ==== Proof.RefValue.lean ====
module

public import proofs.«01_k».proof.Proof.ArrayValue
public import proofs.«01_k».proof.Proof.Gen.ReferenceIdeal.Read

@[expose] public section

/-! # What the reference computes -/

set_option maxRecDepth 16384
noncomputable section
namespace Cert.Proof.Reference

open Cert.ReferenceIdeal Cert.ReferenceIdeal.Gen Cert.ReferenceIdeal.Read
open Idealize.ShloMosaic Idealize.ShloMosaic.TcCoe Idealize.ShloMosaic.Tactic
open Idealize.SL Idealize.SL.Sem
open Cert.Proof.KernelIdeal (code weight part product)

variable (x0 : FVec Ideal S48x1x5120 .bf16) (x1 : IVec S1280x17920 8) (x2 x3 : FVec Ideal S320x17920 .bf16)

/-- The reference's shift and mask of a widened byte, read as a number, is the byte's field. -/
theorem uitofp_field (b : BitVec 8) (j : ℕ) (hj : j < 4) :
    FloatOps.uitofp (F := Ideal) .bf16 (IntOp.andi (IntOp.shrui .host (b.setWidth 32) (BitVec.ofNat 32 (2 * j))) 3#32) = (((code b j).toNat : ℝ) : EReal) := by
  have hs : IntOp.shrui .host (b.setWidth 32) (BitVec.ofNat 32 (2 * j)) = b.setWidth 32 >>> (2 * j) := by
    unfold IntOp.shrui
    have e : (BitVec.ofNat 32 (2 * j)).toNat = 2 * j := by simp; omega
    have hk : 2 * j < 32 := by omega
    simp only [e, if_pos hk, BitVec.ushiftRight_eq']
  rw [hs]
  rfl

/-- The weights of the field 0: row `k` holds those of the features `4 k + 0`. -/
theorem weights_0 (k : Fin 1280) (n : Fin 17920) :
    val_main_v11 (F := Ideal) x1 x2 x3 (ix2 k n) = weight (x1 (ix2 k n)) 0 (x2 (ix2 ⟨k.val / 4, by omega⟩ n)) (x3 (ix2 ⟨k.val / 4, by omega⟩ n)) := by
  pointwise [val_main_v11, val_main_v10, val_main_v9, val_main_v8, val_main_v7, val_main_v6, val_main_v5, val_main_v4, val_main_v3, val_main_v2, val_main_v1, val_main_v0, val_main_c, val_main_c_0]
  exact congrArg (· * x2 (ix2 ⟨k.val / 4, by omega⟩ n) + x3 (ix2 ⟨k.val / 4, by omega⟩ n)) (uitofp_field (x1 (ix2 k n)) 0 (by decide))

/-- The weights of the field 1: row `k` holds those of the features `4 k + 1`. -/
theorem weights_1 (k : Fin 1280) (n : Fin 17920) :
    val_main_v21 (F := Ideal) x1 x2 x3 (ix2 k n) = weight (x1 (ix2 k n)) 1 (x2 (ix2 ⟨k.val / 4, by omega⟩ n)) (x3 (ix2 ⟨k.val / 4, by omega⟩ n)) := by
  pointwise [val_main_v21, val_main_v20, val_main_v19, val_main_v18, val_main_v17, val_main_v16, val_main_v15, val_main_v14, val_main_v3, val_main_v2, val_main_v1, val_main_v0, val_main_c_1, val_main_c_2]
  exact congrArg (· * x2 (ix2 ⟨k.val / 4, by omega⟩ n) + x3 (ix2 ⟨k.val / 4, by omega⟩ n)) (uitofp_field (x1 (ix2 k n)) 1 (by decide))

/-- The weights of the field 2: row `k` holds those of the features `4 k + 2`. -/
theorem weights_2 (k : Fin 1280) (n : Fin 17920) :
    val_main_v31 (F := Ideal) x1 x2 x3 (ix2 k n) = weight (x1 (ix2 k n)) 2 (x2 (ix2 ⟨k.val / 4, by omega⟩ n)) (x3 (ix2 ⟨k.val / 4, by omega⟩ n)) := by
  pointwise [val_main_v31, val_main_v30, val_main_v29, val_main_v28, val_main_v27, val_main_v26, val_main_v25, val_main_v24, val_main_v3, val_main_v2, val_main_v1, val_main_v0, val_main_c_3, val_main_c_4]
  exact congrArg (· * x2 (ix2 ⟨k.val / 4, by omega⟩ n) + x3 (ix2 ⟨k.val / 4, by omega⟩ n)) (uitofp_field (x1 (ix2 k n)) 2 (by decide))

/-- The weights of the field 3: row `k` holds those of the features `4 k + 3`. -/
theorem weights_3 (k : Fin 1280) (n : Fin 17920) :
    val_main_v41 (F := Ideal) x1 x2 x3 (ix2 k n) = weight (x1 (ix2 k n)) 3 (x2 (ix2 ⟨k.val / 4, by omega⟩ n)) (x3 (ix2 ⟨k.val / 4, by omega⟩ n)) := by
  pointwise [val_main_v41, val_main_v40, val_main_v39, val_main_v38, val_main_v37, val_main_v36, val_main_v35, val_main_v34, val_main_v3, val_main_v2, val_main_v1, val_main_v0, val_main_c_5, val_main_c_6]
  exact congrArg (· * x2 (ix2 ⟨k.val / 4, by omega⟩ n) + x3 (ix2 ⟨k.val / 4, by omega⟩ n)) (uitofp_field (x1 (ix2 k n)) 3 (by decide))

/-- The reference's sum over the field 0. -/
theorem partial_0 (b : Fin 48) (n : Fin 17920) : val_main_v13 (F := Ideal) x0 x1 x2 x3 (ix3 b 0 n)
    = part (fun k => x0 (ix3 b 0 ⟨4 * k.val, by omega⟩)) (fun k => x1 (ix2 k n)) (fun g => x2 (ix2 g n)) (fun g => x3 (ix2 g n)) 0 := by
  pointwise [val_main_v13, val_main_v12]
  refine Finset.sum_congr rfl fun k _ => ?_
  refine congrArg₂ (· * ·) ?_ (weights_0 x1 x2 x3 k n)
  blk_ext

/-- The reference's sum over the field 1. -/
theorem partial_1 (b : Fin 48) (n : Fin 17920) : val_main_v23 (F := Ideal) x0 x1 x2 x3 (ix3 b 0 n)
    = part (fun k => x0 (ix3 b 0 ⟨4 * k.val + 1, by omega⟩)) (fun k => x1 (ix2 k n)) (fun g => x2 (ix2 g n)) (fun g => x3 (ix2 g n)) 1 := by
  pointwise [val_main_v23, val_main_v22]
  refine Finset.sum_congr rfl fun k _ => ?_
  refine congrArg₂ (· * ·) ?_ (weights_1 x1 x2 x3 k n)
  blk_ext

/-- The reference's sum over the field 2. -/
theorem partial_2 (b : Fin 48) (n : Fin 17920) : val_main_v33 (F := Ideal) x0 x1 x2 x3 (ix3 b 0 n)
    = part (fun k => x0 (ix3 b 0 ⟨4 * k.val + 2, by omega⟩)) (fun k => x1 (ix2 k n)) (fun g => x2 (ix2 g n)) (fun g => x3 (ix2 g n)) 2 := by
  pointwise [val_main_v33, val_main_v32]
  refine Finset.sum_congr rfl fun k _ => ?_
  refine congrArg₂ (· * ·) ?_ (weights_2 x1 x2 x3 k n)
  blk_ext

/-- The reference's sum over the field 3. -/
theorem partial_3 (b : Fin 48) (n : Fin 17920) : val_main_v43 (F := Ideal) x0 x1 x2 x3 (ix3 b 0 n)
    = part (fun k => x0 (ix3 b 0 ⟨4 * k.val + 3, by omega⟩)) (fun k => x1 (ix2 k n)) (fun g => x2 (ix2 g n)) (fun g => x3 (ix2 g n)) 3 := by
  pointwise [val_main_v43, val_main_v42]
  refine Finset.sum_congr rfl fun k _ => ?_
  refine congrArg₂ (· * ·) ?_ (weights_3 x1 x2 x3 k n)
  blk_ext

/-- The reference's result: the product, at every row and column. -/
theorem result_apply (b : Fin 48) (n : Fin 17920) : val_main_v48 (F := Ideal) x0 x1 x2 x3 (ix2 b n) = product x0 x1 x2 x3 b n := by
  pointwise [val_main_v48, val_main_v47, val_main_v46, val_main_v45, val_main_v44]
  rw [partial_0, partial_1, partial_2, partial_3]
  rfl

/-- The same, as one array. -/
theorem result_eq : val_main_v48 (F := Ideal) x0 x1 x2 x3 = fun i : S48x17920.Idx => product x0 x1 x2 x3 (i 0) (i 1) :=
  funext fun i => (congrArg (val_main_v48 (F := Ideal) x0 x1 x2 x3) (ix2_eta i).symm).trans (result_apply x0 x1 x2 x3 (i 0) (i 1))

end Cert.Proof.Reference
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.IdealRun
public import proofs.«01_k».proof.Proof.ArrayValue
public import proofs.«01_k».proof.Proof.RefValue
public import Idealize.ShloMosaic.Lib.Bf16Pair
public import Idealize.ShloMosaic.Lib.Bf16PairInverse
public import Idealize.ShloMosaic.Lib.Quiescent
public import Idealize.ShloMosaic.Lib.Claim
public import Idealize.ShloMosaic.Lib.Pipeline.ValueKit

@[expose] public section

/-! # The claim, from the frames, the rewrites' statements and the equation of the values -/

noncomputable section

namespace Cert.Proof

open Idealize.ShloMosaic Idealize.SL.Sem

/-- The reference ends with its arguments unchanged; it has no semaphore. -/
theorem reference_quiescent : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- What the ideal rewrites state, each at its shapes. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

/-- Over the extended reals the kernel and the reference leave the same result: the product, at every row and column. -/
theorem algebraic : Cert.algebraic_KernelIdeal_ReferenceIdeal (hKernelIdeal := Cert.KernelIdeal.Gen.facts) (hReferenceIdeal := Cert.ReferenceIdeal.Gen.facts) := by
  pair_intro
  · run_from Cert.Proof.KernelIdeal.run_main m g
  · run_from Cert.ReferenceIdeal.Value.run m' g'
    refine Eq.trans ?_ (Cert.Proof.KernelIdeal.final m c).symm
    exact (Cert.ReferenceIdeal.Read.val_main_v48_eq (F := Ideal) _ _ _ _).trans (Cert.Proof.Reference.result_eq _ _ _ _)

/-- The five claims. -/
theorem claim : Cert.Claim := ⟨Cert.Kernel.Gen.facts, Cert.KernelIdeal.Gen.facts, Cert.ReferenceIdeal.Gen.facts,
  fun m g _ => Kernel.frame_quiescent m g,
  fun m g _ => KernelIdeal.frame_quiescent m g,
  reference_quiescent,
  preserves,
  algebraic⟩

end Cert.Proof

end
